-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16x4096 : Shape := ⟨2, ![16, 4096]⟩
abbrev S16x4096x7x2 : Shape := ⟨4, ![16, 4096, 7, 2]⟩
abbrev S21x8x4x4 : Shape := ⟨4, ![21, 8, 4, 4]⟩
abbrev S21x37 : Shape := ⟨2, ![21, 37]⟩
abbrev S21x37x3 : Shape := ⟨3, ![21, 37, 3]⟩
abbrev S_ : Shape := ⟨0, ![]⟩
abbrev S21x8x3x4 : Shape := ⟨4, ![21, 8, 3, 4]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S21x37 : S_.BroadcastsInDim S21x37 (![] : Fin 0 → Fin S21x37.rank)
  reducesTo_S21x37_S_d0_1 : S21x37.ReducesTo [0, 1] S_
  bcast_S_S16x4096x7x2 : S_.BroadcastsInDim S16x4096x7x2 (![] : Fin 0 → Fin S16x4096x7x2.rank)
  reducesTo_S16x4096x7x2_S_d0_1_2_3 : S16x4096x7x2.ReducesTo [0, 1, 2, 3] S_
  slices_S21x8x4x4_S21x8x3x4_0_0_0_0 : S21x8x4x4.Slices ![0, 0, 0, 0] S21x8x3x4
  bcast_S_S21x8x3x4 : S_.BroadcastsInDim S21x8x3x4 (![] : Fin 0 → Fin S21x8x3x4.rank)
  reducesTo_S21x8x3x4_S_d0_1_2_3 : S21x8x3x4.ReducesTo [0, 1, 2, 3] S_
  bcast_S_S21x37x3 : S_.BroadcastsInDim S21x37x3 (![] : Fin 0 → Fin S21x37x3.rank)
  reducesTo_S21x37x3_S_d0_1_2 : S21x37x3.ReducesTo [0, 1, 2] S_

variable [Facts]

def fn_part1 {F : FTy → Type} [FloatOps F] (main_arg2 : FVec F S21x8x4x4 .f32) (main_arg4 : FVec F S21x37x3 .f32) (main_v5 : IVec S_ 1) (main_v11 : IVec S_ 1) (main_v15 : IVec S_ 1) : IVec S_ 1 :=
  let main_v16 : FVec F S21x8x3x4 .f32 := (extractStridedSlice S21x8x3x4 ![0, 0, 0, 0] · slices_S21x8x4x4_S21x8x3x4_0_0_0_0) main_arg2
  let main_v17 : FVec F S21x8x3x4 .f32 := subf main_v16 main_v16
  let main_cst_6 : FVec F S_ .f32 := constant S_ .f32 0x00000000#32
  let main_v18 : FVec F S21x8x3x4 .f32 := broadcastInDim S21x8x3x4 ![] bcast_S_S21x8x3x4 main_cst_6
  let main_v19 : IVec S21x8x3x4 1 := cmpf .oeq main_v17 main_v18
  let main_c_7 : IVec S_ 1 := constantI S_ 1 1#1
  let main_v20 : IVec S_ 1 := (fun x v => Host.reduce IntOp.andi x v reducesTo_S21x8x3x4_S_d0_1_2_3 h_S_) main_v19 main_c_7
  let main_v21 : FVec F S21x37x3 .f32 := subf main_arg4 main_arg4
  let main_cst_8 : FVec F S_ .f32 := constant S_ .f32 0x00000000#32
  let main_v22 : FVec F S21x37x3 .f32 := broadcastInDim S21x37x3 ![] bcast_S_S21x37x3 main_cst_8
  let main_v23 : IVec S21x37x3 1 := cmpf .oeq main_v21 main_v22
  let main_c_9 : IVec S_ 1 := constantI S_ 1 1#1
  let main_v24 : IVec S_ 1 := (fun x v => Host.reduce IntOp.andi x v reducesTo_S21x37x3_S_d0_1_2 h_S_) main_v23 main_c_9
  let main_v25 : IVec S_ 1 := andi main_v5 main_v11
  let main_v26 : IVec S_ 1 := andi main_v25 main_v15
  let main_v27 : IVec S_ 1 := andi main_v26 main_v20
  let main_v28 : IVec S_ 1 := andi main_v27 main_v24
  main_v28

def fn {F : FTy → Type} [FloatOps F] (main_arg0 : IVec S16x4096 32) (main_arg1 : FVec F S16x4096x7x2 .f32) (main_arg2 : FVec F S21x8x4x4 .f32) (main_arg3 : IVec S21x37 32) (main_arg4 : FVec F S21x37x3 .f32) : IVec S_ 1 :=
  let main_c : IVec S_ 32 := constantI S_ 32 0#32
  let main_v0 : IVec S16x4096 32 := broadcastInDim S16x4096 ![] bcast_S_S16x4096 main_c
  let main_v1 : IVec S16x4096 1 := cmpi .sge main_arg0 main_v0
  let main_c_0 : IVec S_ 32 := constantI S_ 32 21#32
  let main_v2 : IVec S16x4096 32 := broadcastInDim S16x4096 ![] bcast_S_S16x4096 main_c_0
  let main_v3 : IVec S16x4096 1 := cmpi .slt main_arg0 main_v2
  let main_v4 : IVec S16x4096 1 := andi main_v1 main_v3
  let main_c_1 : IVec S_ 1 := constantI S_ 1 1#1
  let main_v5 : IVec S_ 1 := (fun x v => Host.reduce IntOp.andi x v reducesTo_S16x4096_S_d0_1 h_S_) main_v4 main_c_1
  let main_c_2 : IVec S_ 32 := constantI S_ 32 0#32
  let main_v6 : IVec S21x37 32 := broadcastInDim S21x37 ![] bcast_S_S21x37 main_c_2
  let main_v7 : IVec S21x37 1 := cmpi .sge main_arg3 main_v6
  let main_c_3 : IVec S_ 32 := constantI S_ 32 8#32
  let main_v8 : IVec S21x37 32 := broadcastInDim S21x37 ![] bcast_S_S21x37 main_c_3
  let main_v9 : IVec S21x37 1 := cmpi .slt main_arg3 main_v8
  let main_v10 : IVec S21x37 1 := andi main_v7 main_v9
  let main_c_4 : IVec S_ 1 := constantI S_ 1 1#1
  let main_v11 : IVec S_ 1 := (fun x v => Host.reduce IntOp.andi x v reducesTo_S21x37_S_d0_1 h_S_) main_v10 main_c_4
  let main_v12 : FVec F S16x4096x7x2 .f32 := subf main_arg1 main_arg1
  let main_cst : FVec F S_ .f32 := constant S_ .f32 0x00000000#32
  let main_v13 : FVec F S16x4096x7x2 .f32 := broadcastInDim S16x4096x7x2 ![] bcast_S_S16x4096x7x2 main_cst
  let main_v14 : IVec S16x4096x7x2 1 := cmpf .oeq main_v12 main_v13
  let main_c_5 : IVec S_ 1 := constantI S_ 1 1#1
  let main_v15 : IVec S_ 1 := (fun x v => Host.reduce IntOp.andi x v reducesTo_S16x4096x7x2_S_d0_1_2_3 h_S_) main_v14 main_c_5
  fn_part1 (F := F) main_arg2 main_arg4 main_v5 main_v11 main_v15
-- ==== Kernel.lean ====
abbrev S16x4096 : Shape := ⟨2, ![16, 4096]⟩
abbrev S16x4096x7x2 : Shape := ⟨4, ![16, 4096, 7, 2]⟩
abbrev S21x8x4x4 : Shape := ⟨4, ![21, 8, 4, 4]⟩
abbrev S21x37 : Shape := ⟨2, ![21, 37]⟩
abbrev S21x37x3 : Shape := ⟨3, ![21, 37, 3]⟩
abbrev S32x1x2048 : Shape := ⟨3, ![32, 1, 2048]⟩
abbrev S65536x7x2 : Shape := ⟨3, ![65536, 7, 2]⟩
abbrev S2x7x65536 : Shape := ⟨3, ![2, 7, 65536]⟩
abbrev S21x8x3x3 : Shape := ⟨4, ![21, 8, 3, 3]⟩
abbrev S3x3x8x21 : Shape := ⟨4, ![3, 3, 8, 21]⟩
abbrev S72x21 : Shape := ⟨2, ![72, 21]⟩
abbrev S21x8x3x1 : Shape := ⟨4, ![21, 8, 3, 1]⟩
abbrev S21x8x3 : Shape := ⟨3, ![21, 8, 3]⟩
abbrev S3x8x21 : Shape := ⟨3, ![3, 8, 21]⟩
abbrev S24x21 : Shape := ⟨2, ![24, 21]⟩
abbrev S3x37x21 : Shape := ⟨3, ![3, 37, 21]⟩
abbrev S_ : Shape := ⟨0, ![]⟩
abbrev S3x21 : Shape := ⟨2, ![3, 21]⟩
abbrev S37x21 : Shape := ⟨2, ![37, 21]⟩
abbrev S1x37x21 : Shape := ⟨3, ![1, 37, 21]⟩
abbrev S256x21 : Shape := ⟨2, ![256, 21]⟩
abbrev S256x32 : Shape := ⟨2, ![256, 32]⟩
abbrev S512x32 : Shape := ⟨2, ![512, 32]⟩
abbrev S240 : Shape := ⟨1, ![240]⟩
abbrev S111 : Shape := ⟨1, ![111]⟩
abbrev S1x111 : Shape := ⟨2, ![1, 111]⟩
abbrev S240x1 : Shape := ⟨2, ![240, 1]⟩
abbrev S240x111 : Shape := ⟨2, ![240, 111]⟩
abbrev S65536x111 : Shape := ⟨2, ![65536, 111]⟩
abbrev S1x1x2048 : Shape := ⟨3, ![1, 1, 2048]⟩
abbrev S2x7x2048 : Shape := ⟨3, ![2, 7, 2048]⟩
abbrev S2048x111 : Shape := ⟨2, ![2048, 111]⟩
abbrev S1x2048 : Shape := ⟨2, ![1, 2048]⟩
abbrev S32x2048 : Shape := ⟨2, ![32, 2048]⟩
abbrev S512x2048 : Shape := ⟨2, ![512, 2048]⟩
abbrev S256x2048 : Shape := ⟨2, ![256, 2048]⟩
abbrev S1x7x2048 : Shape := ⟨3, ![1, 7, 2048]⟩
abbrev S7x2048 : Shape := ⟨2, ![7, 2048]⟩
abbrev S8x2048 : Shape := ⟨2, ![8, 2048]⟩
abbrev S37x2048 : Shape := ⟨2, ![37, 2048]⟩
abbrev S3x2048 : Shape := ⟨2, ![3, 2048]⟩
abbrev S240x2048 : Shape := ⟨2, ![240, 2048]⟩
abbrev S16x4096x37x3 : Shape := ⟨4, ![16, 4096, 37, 3]⟩

abbrev nBuf : Space → Nat
  | .hbm => 95
  | .vmem => 8
  | .smem => 0
  | _ => 0

abbrev bufTy : (tb : Table) → Fin (tcTables nBuf tb) → BufTy
  | .hbm, ⟨0, _⟩ => ⟨S16x4096, .i32⟩
  | .hbm, ⟨1, _⟩ => ⟨S16x4096x7x2, .f32⟩
  | .hbm, ⟨2, _⟩ => ⟨S21x8x4x4, .f32⟩
  | .hbm, ⟨3, _⟩ => ⟨S21x37, .i32⟩
  | .hbm, ⟨4, _⟩ => ⟨S21x37x3, .f32⟩
  | .hbm, ⟨5, _⟩ => ⟨S32x1x2048, .i32⟩
  | .hbm, ⟨6, _⟩ => ⟨S65536x7x2, .f32⟩
  | .hbm, ⟨7, _⟩ => ⟨S2x7x65536, .f32⟩
  | .hbm, ⟨8, _⟩ => ⟨S21x8x3x3, .f32⟩
  | .hbm, ⟨9, _⟩ => ⟨S3x3x8x21, .f32⟩
  | .hbm, ⟨10, _⟩ => ⟨S72x21, .f32⟩
  | .hbm, ⟨11, _⟩ => ⟨S21x8x3x1, .f32⟩
  | .hbm, ⟨12, _⟩ => ⟨S21x8x3, .f32⟩
  | .hbm, ⟨13, _⟩ => ⟨S3x8x21, .f32⟩
  | .hbm, ⟨14, _⟩ => ⟨S24x21, .f32⟩
  | .hbm, ⟨15, _⟩ => ⟨S3x37x21, .f32⟩
  | .hbm, ⟨16, _⟩ => ⟨S_, .f32⟩
  | .hbm, ⟨17, _⟩ => ⟨S3x21, .f32⟩
  | .hbm, ⟨18, _⟩ => ⟨S37x21, .i32⟩
  | .hbm, ⟨19, _⟩ => ⟨S37x21, .f32⟩
  | .hbm, ⟨20, _⟩ => ⟨S1x37x21, .f32⟩
  | .hbm, ⟨21, _⟩ => ⟨S37x21, .f32⟩
  | .hbm, ⟨22, _⟩ => ⟨S1x37x21, .f32⟩
  | .hbm, ⟨23, _⟩ => ⟨S37x21, .f32⟩
  | .hbm, ⟨24, _⟩ => ⟨S1x37x21, .f32⟩
  | .hbm, ⟨25, _⟩ => ⟨S37x21, .f32⟩
  | .hbm, ⟨26, _⟩ => ⟨S256x21, .f32⟩
  | .hbm, ⟨27, _⟩ => ⟨S_, .i32⟩
  | .hbm, ⟨28, _⟩ => ⟨S_, .f32⟩
  | .hbm, ⟨29, _⟩ => ⟨S256x32, .f32⟩
  | .hbm, ⟨30, _⟩ => ⟨S256x32, .bf16⟩
  | .hbm, ⟨31, _⟩ => ⟨S256x32, .f32⟩
  | .hbm, ⟨32, _⟩ => ⟨S256x32, .f32⟩
  | .hbm, ⟨33, _⟩ => ⟨S256x32, .bf16⟩
  | .hbm, ⟨34, _⟩ => ⟨S512x32, .bf16⟩
  | .hbm, ⟨35, _⟩ => ⟨S240, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S240, .i32⟩
  | .hbm, ⟨43, _⟩ => ⟨S240, .i32⟩
  | .hbm, ⟨44, _⟩ => ⟨S_, .i32⟩
  | .hbm, ⟨45, _⟩ => ⟨S240, .i32⟩
  | .hbm, ⟨46, _⟩ => ⟨S240, .i1⟩
  | .hbm, ⟨47, _⟩ => ⟨S_, .i32⟩
  | .hbm, ⟨48, _⟩ => ⟨S240, .i32⟩
  | .hbm, ⟨49, _⟩ => ⟨S240, .i1⟩
  | .hbm, ⟨50, _⟩ => ⟨S_, .i32⟩
  | .hbm, ⟨51, _⟩ => ⟨S_, .i1⟩
  | .hbm, ⟨52, _⟩ => ⟨S240, .i1⟩
  | .hbm, ⟨53, _⟩ => ⟨S240, .i1⟩
  | .hbm, ⟨54, _⟩ => ⟨S240, .i1⟩
  | .hbm, ⟨55, _⟩ => ⟨S240, .i32⟩
  | .hbm, ⟨56, _⟩ => ⟨S240, .i32⟩
  | .hbm, ⟨57, _⟩ => ⟨S240, .i32⟩
  | .hbm, ⟨58, _⟩ => ⟨S_, .i32⟩
  | .hbm, ⟨59, _⟩ => ⟨S240, .i32⟩
  | .hbm, ⟨60, _⟩ => ⟨S240, .i32⟩
  | .hbm, ⟨61, _⟩ => ⟨S_, .i32⟩
  | .hbm, ⟨62, _⟩ => ⟨S_, .i32⟩
  | .hbm, ⟨63, _⟩ => ⟨S240, .i32⟩
  | .hbm, ⟨64, _⟩ => ⟨S240, .i32⟩
  | .hbm, ⟨65, _⟩ => ⟨S240, .i32⟩
  | .hbm, ⟨66, _⟩ => ⟨S_, .i32⟩
  | .hbm, ⟨67, _⟩ => ⟨S240, .i32⟩
  | .hbm, ⟨68, _⟩ => ⟨S240, .i1⟩
  | .hbm, ⟨69, _⟩ => ⟨S240, .i32⟩
  | .hbm, ⟨70, _⟩ => ⟨S240, .i32⟩
  | .hbm, ⟨71, _⟩ => ⟨S_, .i32⟩
  | .hbm, ⟨72, _⟩ => ⟨S240, .i32⟩
  | .hbm, ⟨73, _⟩ => ⟨S240, .i1⟩
  | .hbm, ⟨74, _⟩ => ⟨S240, .i1⟩
  | .hbm, ⟨75, _⟩ => ⟨S_, .i32⟩
  | .hbm, ⟨76, _⟩ => ⟨S240, .i32⟩
  | .hbm, ⟨77, _⟩ => ⟨S240, .i32⟩
  | .hbm, ⟨78, _⟩ => ⟨S240, .i32⟩
  | .hbm, ⟨79, _⟩ => ⟨S240, .i32⟩
  | .hbm, ⟨80, _⟩ => ⟨S111, .i32⟩
  | .hbm, ⟨81, _⟩ => ⟨S1x111, .i32⟩
  | .hbm, ⟨82, _⟩ => ⟨S240x1, .i32⟩
  | .hbm, ⟨83, _⟩ => ⟨S240x111, .i32⟩
  | .hbm, ⟨84, _⟩ => ⟨S240x111, .i32⟩
  | .hbm, ⟨85, _⟩ => ⟨S240x111, .i1⟩
  | .hbm, ⟨86, _⟩ => ⟨S_, .i32⟩
  | .hbm, ⟨87, _⟩ => ⟨S240, .i32⟩
  | .hbm, ⟨88, _⟩ => ⟨S240, .i1⟩
  | .hbm, ⟨89, _⟩ => ⟨S240x1, .i1⟩
  | .hbm, ⟨90, _⟩ => ⟨S240x111, .i1⟩
  | .hbm, ⟨91, _⟩ => ⟨S240x111, .i1⟩
  | .hbm, ⟨92, _⟩ => ⟨S240x111, .bf16⟩
  | .hbm, ⟨93, _⟩ => ⟨S65536x111, .f32⟩
  | .hbm, ⟨94, _⟩ => ⟨S16x4096x37x3, .f32⟩
  | .local _ .vmem, ⟨0, _⟩ => ⟨S1x1x2048, .i32⟩
  | .local _ .vmem, ⟨1, _⟩ => ⟨S1x1x2048, .i32⟩
  | .local _ .vmem, ⟨2, _⟩ => ⟨S2x7x2048, .f32⟩
  | .local _ .vmem, ⟨3, _⟩ => ⟨S2x7x2048, .f32⟩
  | .local _ .vmem, ⟨4, _⟩ => ⟨S512x32, .bf16⟩
  | .local _ .vmem, ⟨5, _⟩ => ⟨S240x111, .bf16⟩
  | .local _ .vmem, ⟨6, _⟩ => ⟨S2048x111, .f32⟩
  | .local _ .vmem, ⟨7, _⟩ => ⟨S2048x111, .f32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v28 : Ref sig .tc := ⟨.hbm, 57, rfl⟩
abbrev main_c_1 : Ref sig .tc := ⟨.hbm, 58, rfl⟩
abbrev main_v29 : Ref sig .tc := ⟨.hbm, 59, rfl⟩
abbrev main_v30 : Ref sig .tc := ⟨.hbm, 60, rfl⟩
abbrev main_c_2 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_c_3 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x7x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S240x111 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x111 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x4096 : Shape := ⟨2, ![16, 4096]⟩
abbrev S16x4096x7x2 : Shape := ⟨4, ![16, 4096, 7, 2]⟩
abbrev S21x8x4x4 : Shape := ⟨4, ![21, 8, 4, 4]⟩
abbrev S21x37 : Shape := ⟨2, ![21, 37]⟩
abbrev S21x37x3 : Shape := ⟨3, ![21, 37, 3]⟩
abbrev S_ : Shape := ⟨0, ![]⟩
abbrev S16x4096x1 : Shape := ⟨3, ![16, 4096, 1]⟩
abbrev S16x4096x8x4x4 : Shape := ⟨5, ![16, 4096, 8, 4, 4]⟩
abbrev S16x4096x8x3x3 : Shape := ⟨5, ![16, 4096, 8, 3, 3]⟩
abbrev S16x4096x8x3x1 : Shape := ⟨5, ![16, 4096, 8, 3, 1]⟩
abbrev S16x4096x8x3 : Shape := ⟨4, ![16, 4096, 8, 3]⟩
abbrev S16x4096x7x1 : Shape := ⟨4, ![16, 4096, 7, 1]⟩
abbrev S16x4096x7 : Shape := ⟨3, ![16, 4096, 7]⟩
abbrev S16x4096x8 : Shape := ⟨3, ![16, 4096, 8]⟩
abbrev S16x4096x8x1 : Shape := ⟨4, ![16, 4096, 8, 1]⟩
abbrev S16x4096x8x9 : Shape := ⟨4, ![16, 4096, 8, 9]⟩
abbrev S16x4096x1x3x3 : Shape := ⟨5, ![16, 4096, 1, 3, 3]⟩
abbrev S16x4096x3x3 : Shape := ⟨4, ![16, 4096, 3, 3]⟩
abbrev S16x4096x1x3 : Shape := ⟨4, ![16, 4096, 1, 3]⟩
abbrev S16x4096x3 : Shape := ⟨3, ![16, 4096, 3]⟩
abbrev S16x4096x5x3x3 : Shape := ⟨5, ![16, 4096, 5, 3, 3]⟩
abbrev S16x4096x5x3 : Shape := ⟨4, ![16, 4096, 5, 3]⟩
abbrev S16x4096x37 : Shape := ⟨3, ![16, 4096, 37]⟩
abbrev S16x4096x37x3 : Shape := ⟨4, ![16, 4096, 37, 3]⟩
abbrev S16x4096x37x1x1 : Shape := ⟨5, ![16, 4096, 37, 1, 1]⟩
abbrev S16x4096x37x3x3 : Shape := ⟨5, ![16, 4096, 37, 3, 3]⟩
abbrev S16x4096x37x3x3x1 : Shape := ⟨6, ![16, 4096, 37, 3, 3, 1]⟩
abbrev S1 : Shape := ⟨1, ![1]⟩
abbrev S1x1x1x1x1x1 : Shape := ⟨6, ![1, 1, 1, 1, 1, 1]⟩
abbrev S16x4096x37x1 : Shape := ⟨4, ![16, 4096, 37, 1]⟩
abbrev S16x4096x37x3x1 : Shape := ⟨5, ![16, 4096, 37, 3, 1]⟩
abbrev S1x1x1x1x1 : Shape := ⟨5, ![1, 1, 1, 1, 1]⟩

abbrev nBuf : Space → Nat
  | .hbm => 152
  | .vmem => 0
  | .smem => 0
  | _ => 0

abbrev hbmTy0_0 (i : Nat) : BufTy := match i % 128 with
  | 0 => ⟨S16x4096, .i32⟩
  | 1 => ⟨S16x4096x7x2, .f32⟩
  | 2 => ⟨S21x8x4x4, .f32⟩
  | 3 => ⟨S21x37, .i32⟩
  | 4 => ⟨S21x37x3, .f32⟩
  | 5 => ⟨S_, .i32⟩
  | 6 => ⟨S16x4096, .i32⟩
  | 7 => ⟨S16x4096, .i1⟩
  | 8 => ⟨S_, .i32⟩
  | 9 => ⟨S16x4096, .i32⟩
  | 10 => ⟨S16x4096, .i32⟩
  | 11 => ⟨S16x4096, .i32⟩
  | 12 => ⟨S16x4096x1, .i32⟩
  | 13 => ⟨S16x4096x8x4x4, .f32⟩
  | 14 => ⟨S16x4096x8x3x3, .f32⟩
  | 15 => ⟨S16x4096x8x3x1, .f32⟩
  | 16 => ⟨S16x4096x8x3, .f32⟩
  | 17 => ⟨S_, .f32⟩
  | 18 => ⟨S16x4096x1, .f32⟩
  | 19 => ⟨S_, .f32⟩
  | 20 => ⟨S16x4096x1, .f32⟩
  | 21 => ⟨S16x4096x7x1, .f32⟩
  | 22 => ⟨S16x4096x7, .f32⟩
  | 23 => ⟨S16x4096x8, .f32⟩
  | 24 => ⟨S16x4096x7x1, .f32⟩
  | 25 => ⟨S16x4096x7, .f32⟩
  | 26 => ⟨S16x4096x8, .f32⟩
  | 27 => ⟨S_, .f32⟩
  | 28 => ⟨S16x4096x8, .f32⟩
  | 29 => ⟨S_, .f32⟩
  | 30 => ⟨S16x4096x8, .f32⟩
  | 31 => ⟨S16x4096x8, .f32⟩
  | 32 => ⟨S16x4096x8x1, .f32⟩
  | 33 => ⟨S16x4096x8x1, .f32⟩
  | 34 => ⟨S16x4096x8x1, .f32⟩
  | 35 => ⟨S16x4096x8x1, .f32⟩
  | 36 => ⟨S16x4096x8x1, .f32⟩
  | 37 => ⟨S16x4096x8x1, .f32⟩
  | 38 => ⟨S16x4096x8x1, .f32⟩
  | 39 => ⟨S16x4096x8x1, .f32⟩
  | 40 => ⟨S16x4096x8x1, .f32⟩
  | 41 => ⟨S16x4096x8x9, .f32⟩
  | 42 => ⟨S16x4096x8x3x3, .f32⟩
  | 43 => ⟨S_, .f32⟩
  | 44 => ⟨S16x4096x8x3, .f32⟩
  | 45 => ⟨S16x4096x8x3x3, .f32⟩
  | 46 => ⟨S16x4096x8x3, .f32⟩
  | 47 => ⟨S16x4096x8x3, .f32⟩
  | 48 => ⟨S16x4096x1x3x3, .f32⟩
  | 49 => ⟨S16x4096x3x3, .f32⟩
  | 50 => ⟨S16x4096x1x3, .f32⟩
  | 51 => ⟨S16x4096x3, .f32⟩
  | 52 => ⟨S16x4096x1x3x3, .f32⟩
  | 53 => ⟨S16x4096x3x3, .f32⟩
  | 54 => ⟨S16x4096x1x3, .f32⟩
  | 55 => ⟨S16x4096x3, .f32⟩
  | 56 => ⟨S16x4096x3x3, .f32⟩
  | 57 => ⟨S16x4096x3, .f32⟩
  | 58 => ⟨S16x4096x3, .f32⟩
  | 59 => ⟨S16x4096x1x3x3, .f32⟩
  | 60 => ⟨S16x4096x3x3, .f32⟩
  | 61 => ⟨S16x4096x1x3, .f32⟩
  | 62 => ⟨S16x4096x3, .f32⟩
  | 63 => ⟨S16x4096x3x3, .f32⟩
  | 64 => ⟨S16x4096x3, .f32⟩
  | 65 => ⟨S16x4096x3, .f32⟩
  | 66 => ⟨S16x4096x1x3x3, .f32⟩
  | 67 => ⟨S16x4096x3x3, .f32⟩
  | 68 => ⟨S16x4096x1x3, .f32⟩
  | 69 => ⟨S16x4096x3, .f32⟩
  | 70 => ⟨S16x4096x3x3, .f32⟩
  | 71 => ⟨S16x4096x3, .f32⟩
  | 72 => ⟨S16x4096x3, .f32⟩
  | 73 => ⟨S16x4096x5x3x3, .f32⟩
  | 74 => ⟨S16x4096x1x3x3, .f32⟩
  | 75 => ⟨S16x4096x1x3x3, .f32⟩
  | 76 => ⟨S16x4096x1x3x3, .f32⟩
  | 77 => ⟨S16x4096x8x3x3, .f32⟩
  | 78 => ⟨S16x4096x5x3, .f32⟩
  | 79 => ⟨S16x4096x1x3, .f32⟩
  | 80 => ⟨S16x4096x1x3, .f32⟩
  | 81 => ⟨S16x4096x1x3, .f32⟩
  | 82 => ⟨S16x4096x8x3, .f32⟩
  | 83 => ⟨S_, .i32⟩
  | 84 => ⟨S16x4096, .i32⟩
  | 85 => ⟨S16x4096, .i1⟩
  | 86 => ⟨S_, .i32⟩
  | 87 => ⟨S16x4096, .i32⟩
  | 88 => ⟨S16x4096, .i32⟩
  | 89 => ⟨S16x4096, .i32⟩
  | 90 => ⟨S16x4096x1, .i32⟩
  | 91 => ⟨S16x4096x37, .i32⟩
  | 92 => ⟨S_, .i32⟩
  | 93 => ⟨S16x4096, .i32⟩
  | 94 => ⟨S16x4096, .i1⟩
  | 95 => ⟨S_, .i32⟩
  | 96 => ⟨S16x4096, .i32⟩
  | 97 => ⟨S16x4096, .i32⟩
  | 98 => ⟨S16x4096, .i32⟩
  | 99 => ⟨S16x4096x1, .i32⟩
  | 100 => ⟨S16x4096x37x3, .f32⟩
  | 101 => ⟨S16x4096x37x1x1, .i32⟩
  | 102 => ⟨S16x4096x37x3x3, .i32⟩
  | 103 => ⟨S_, .i32⟩
  | 104 => ⟨S16x4096x37x3x3, .i32⟩
  | 105 => ⟨S16x4096x37x3x3, .i1⟩
  | 106 => ⟨S_, .i32⟩
  | 107 => ⟨S16x4096x37x3x3, .i32⟩
  | 108 => ⟨S16x4096x37x3x3, .i32⟩
  | 109 => ⟨S16x4096x37x3x3, .i32⟩
  | 110 => ⟨S16x4096x37x3x3x1, .i32⟩
  | 111 => ⟨S1, .i32⟩
  | 112 => ⟨S_, .i32⟩
  | 113 => ⟨S16x4096x37x3x3x1, .i32⟩
  | 114 => ⟨S16x4096x37x3x3x1, .i1⟩
  | 115 => ⟨S1x1x1x1x1x1, .i32⟩
  | 116 => ⟨S16x4096x37x3x3x1, .i32⟩
  | 117 => ⟨S16x4096x37x3x3x1, .i1⟩
  | 118 => ⟨S16x4096x37x3x3x1, .i1⟩
  | 119 => ⟨S_, .i1⟩
  | 120 => ⟨S16x4096x37x3x3, .i1⟩
  | 121 => ⟨S16x4096x37x3x3, .f32⟩
  | 122 => ⟨S_, .f32⟩
  | 123 => ⟨S16x4096x37x3x3, .f32⟩
  | 124 => ⟨S16x4096x37x3x3, .f32⟩
  | 125 => ⟨S16x4096x37x1, .i32⟩
  | 126 => ⟨S16x4096x37x3, .i32⟩
  | 127 => ⟨S_, .i32⟩
  | _ => ⟨S16x4096, .i32⟩

abbrev hbmTy0_1 (i : Nat) : BufTy := match i % 128 with
  | 0 => ⟨S16x4096x37x3, .i32⟩
  | 1 => ⟨S16x4096x37x3, .i1⟩
  | 2 => ⟨S_, .i32⟩
  | 3 => ⟨S16x4096x37x3, .i32⟩
  | 4 => ⟨S16x4096x37x3, .i32⟩
  | 5 => ⟨S16x4096x37x3, .i32⟩
  | 6 => ⟨S16x4096x37x3x1, .i32⟩
  | 7 => ⟨S1, .i32⟩
  | 8 => ⟨S_, .i32⟩
  | 9 => ⟨S16x4096x37x3x1, .i32⟩
  | 10 => ⟨S16x4096x37x3x1, .i1⟩
  | 11 => ⟨S1x1x1x1x1, .i32⟩
  | 12 => ⟨S16x4096x37x3x1, .i32⟩
  | 13 => ⟨S16x4096x37x3x1, .i1⟩
  | 14 => ⟨S16x4096x37x3x1, .i1⟩
  | 15 => ⟨S_, .i1⟩
  | 16 => ⟨S16x4096x37x3, .i1⟩
  | 17 => ⟨S16x4096x37x3, .f32⟩
  | 18 => ⟨S_, .f32⟩
  | 19 => ⟨S16x4096x37x3, .f32⟩
  | 20 => ⟨S16x4096x37x3, .f32⟩
  | 21 => ⟨S16x4096x37x3x3, .f32⟩
  | 22 => ⟨S16x4096x37x3, .f32⟩
  | 23 => ⟨S16x4096x37x3, .f32⟩
  | _ => ⟨S16x4096, .i32⟩

abbrev hbmTy (i : Nat) : BufTy := match i / 128 with
  | 0 => hbmTy0_0 i
  | 1 => hbmTy0_1 i
  | _ => ⟨S16x4096, .i32⟩

abbrev bufTy : (tb : Table) → Fin (tcTables nBuf tb) → BufTy
  | .hbm, ⟨i, _⟩ => hbmTy i
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_c_5 : Ref sig .tc := ⟨.hbm, 83, rfl⟩
abbrev main_v71 : Ref sig .tc := ⟨.hbm, 84, rfl⟩
abbrev main_v72 : Ref sig .tc := ⟨.hbm, 85, rfl⟩
abbrev main_c_6 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_c_7 : Ref sig .tc := ⟨.hbm, 92, rfl⟩
abbrev main_v78 : Ref sig .tc := ⟨.hbm, 93, rfl⟩
abbrev main_v79 : Ref sig .tc := ⟨.hbm, 94, rfl⟩
abbrev main_c_8 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_call0_c : Ref sig .tc := ⟨.hbm, 103, rfl⟩
abbrev main_call0_v0 : Ref sig .tc := ⟨.hbm, 104, rfl⟩
abbrev main_call0_v1 : Ref sig .tc := ⟨.hbm, 105, rfl⟩
abbrev main_call0_c_0 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_v5 : Ref sig .tc := ⟨.hbm, 110, rfl⟩
abbrev main_call0_c_1 : Ref sig .tc := ⟨.hbm, 111, rfl⟩
abbrev main_call0_c_2 : Ref sig .tc := ⟨.hbm, 112, rfl⟩
abbrev main_call0_v6 : Ref sig .tc := ⟨.hbm, 113, rfl⟩
abbrev main_call0_v7 : Ref sig .tc := ⟨.hbm, 114, rfl⟩
abbrev main_call0_v8 : Ref sig .tc := ⟨.hbm, 115, rfl⟩
abbrev main_call0_v9 : Ref sig .tc := ⟨.hbm, 116, rfl⟩
abbrev main_call0_v10 : Ref sig .tc := ⟨.hbm, 117, rfl⟩
abbrev main_call0_v11 : Ref sig .tc := ⟨.hbm, 118, rfl⟩
abbrev main_call0_c_3 : Ref sig .tc := ⟨.hbm, 119, rfl⟩
abbrev main_call0_v12 : Ref sig .tc := ⟨.hbm, 120, rfl⟩
abbrev main_call0_v13 : Ref sig .tc := ⟨.hbm, 121, rfl⟩
abbrev main_call0_cst : Ref sig .tc := ⟨.hbm, 122, rfl⟩
abbrev main_call0_v14 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_call1_c : Ref sig .tc := ⟨.hbm, 127, rfl⟩
abbrev main_call1_v0 : Ref sig .tc := ⟨.hbm, 128, rfl⟩
abbrev main_call1_v1 : Ref sig .tc := ⟨.hbm, 129, rfl⟩
abbrev main_call1_c_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_c_1 : Ref sig .tc := ⟨.hbm, 135, rfl⟩
abbrev main_call1_c_2 : Ref sig .tc := ⟨.hbm, 136, rfl⟩
abbrev main_call1_v6 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_c_3 : Ref sig .tc := ⟨.hbm, 143, rfl⟩
abbrev main_call1_v12 : Ref sig .tc := ⟨.hbm, 144, rfl⟩
abbrev main_call1_v13 : Ref sig .tc := ⟨.hbm, 145, rfl⟩
abbrev main_call1_cst : Ref sig .tc := ⟨.hbm, 146, rfl⟩
abbrev main_call1_v14 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩

abbrev nD : Nat := 1
abbrev τ : Topo := Topo.v7x

variable {F : FTy → Type} [FloatOps F]
-- ==== Proof.Spec.lean ====
/- The mathematics of one residue, over the extended reals, in terms the two programs share: the eight frames' own
   rotations (the template turned by its torsion), the three frames that hang off the one before, and an atom's place. -/
module

public import Idealize.ShloMosaic.Lib.Pointwise

@[expose] public section

namespace Cert.Rigid

/-- Frame `g`'s template rotation `F g` turned about its first axis by the torsion of sine `s g` and cosine `c g`:
    the first column stays, the two others are mixed. -/
noncomputable def turned (F : Fin 8 → Fin 3 → Fin 3 → EReal) (s c : Fin 8 → EReal) (g : Fin 8) (j i : Fin 3) : EReal :=
  match i with
  | 0 => F g j 0
  | 1 => c g * F g j 1 + s g * F g j 2
  | 2 => c g * F g j 2 - s g * F g j 1

/-- The product of two 3 × 3 rotations at row `j`, column `i`. -/
noncomputable def times (p q : Fin 3 → Fin 3 → EReal) (j i : Fin 3) : EReal :=
  p j 0 * q 0 i + p j 1 * q 1 i + p j 2 * q 2 i

/-- The rigid motion of rotation `p` and translation `u` applied to the point `v`, coordinate `j`. -/
noncomputable def moved (p : Fin 3 → Fin 3 → EReal) (u v : Fin 3 → EReal) (j : Fin 3) : EReal :=
  p j 0 * v 0 + p j 1 * v 1 + p j 2 * v 2 + u j

/-- Frame `g`'s rotation: its own for the backbone, the unused pair and the first two torsions and the first side-chain
    frame; the last three frames hang off the frame before. -/
noncomputable def rot (F : Fin 8 → Fin 3 → Fin 3 → EReal) (s c : Fin 8 → EReal) (g : Fin 8) : Fin 3 → Fin 3 → EReal :=
  match g with
  | 5 => times (turned F s c 4) (turned F s c 5)
  | 6 => times (times (turned F s c 4) (turned F s c 5)) (turned F s c 6)
  | 7 => times (times (times (turned F s c 4) (turned F s c 5)) (turned F s c 6)) (turned F s c 7)
  | g => turned F s c g

/-- Frame `g`'s translation: the template's own, moved by the frame before for the last three frames. -/
noncomputable def origin (F : Fin 8 → Fin 3 → Fin 3 → EReal) (T : Fin 8 → Fin 3 → EReal) (s c : Fin 8 → EReal) (g : Fin 8) :
    Fin 3 → EReal :=
  match g with
  | 5 => moved (turned F s c 4) (T 4) (T 5)
  | 6 => moved (rot F s c 5) (moved (turned F s c 4) (T 4) (T 5)) (T 6)
  | 7 => moved (rot F s c 6) (moved (rot F s c 5) (moved (turned F s c 4) (T 4) (T 5)) (T 6)) (T 7)
  | g => T g

/-- Coordinate `i` of an atom whose frame is `g` and whose place in that frame is `p`. -/
noncomputable def place (F : Fin 8 → Fin 3 → Fin 3 → EReal) (T : Fin 8 → Fin 3 → EReal) (s c : Fin 8 → EReal) (g : Fin 8)
    (p : Fin 3 → EReal) (i : Fin 3) : EReal :=
  p 0 * rot F s c g 0 i + p 1 * rot F s c g 1 i + p 2 * rot F s c g 2 i + origin F T s c g i

end Cert.Rigid
-- ==== Proof.Lane.lean ====
/- The kernel's lane arithmetic at one residue (one column of the block): the eight frames' rotations and translations as
   the body builds them are `Cert.Rigid`'s, and so is the frame each atom's selection tree picks. -/
module

public import proofs.«01_k».proof.Proof.Gen.KernelIdeal.Frame
public import proofs.«01_k».proof.Proof.Spec
public import Idealize.ShloMosaic.Lib.Pointwise

@[expose] public section

namespace Cert.KernelIdeal.Lane
open Idealize.ShloMosaic Cert.KernelIdeal.Gen Cert.Rigid
set_option maxRecDepth 16384

/-- The template rotations of residue `n`, read off the selected table column: entry (j, i) of group g is row
    8 (3 j + i) + g. -/
noncomputable def rotOf (G : FVec Ideal S256x2048 .f32) (n : Fin 2048) (g : Fin 8) (j i : Fin 3) : EReal :=
  G (ix2 ⟨(3 * j.val + i.val) * 8 + g.val, by omega⟩ n)

/-- The template translations of residue `n`: entry i of group g is row 72 + 8 i + g. -/
noncomputable def transOf (G : FVec Ideal S256x2048 .f32) (n : Fin 2048) (g : Fin 8) (i : Fin 3) : EReal :=
  G (ix2 ⟨72 + i.val * 8 + g.val, by omega⟩ n)

/-- One of the eight rows of torsion sines (or cosines) at residue `n`. -/
noncomputable def angleOf (S : FVec Ideal S8x2048 .f32) (n : Fin 2048) (g : Fin 8) : EReal := S (ix2 g n)

section
variable (x0 : Vec Ideal S1x1x2048 .i32) (x1 : Vec Ideal S2x7x2048 .f32) (x2 : Vec Ideal S512x32 .bf16)
  (x3 : Vec Ideal S240x111 .bf16)

/-- Residue `n`'s template rotations, in the block. -/
noncomputable abbrev F (n : Fin 2048) := rotOf (k0_pay196 x0 x1 x2 x3) n
/-- Residue `n`'s template translations, in the block. -/
noncomputable abbrev T (n : Fin 2048) := transOf (k0_pay196 x0 x1 x2 x3) n
/-- Residue `n`'s torsion sines, in the block. -/
noncomputable abbrev s (n : Fin 2048) := angleOf (k0_pay197 x0 x1 x2 x3) n
/-- Residue `n`'s torsion cosines, in the block. -/
noncomputable abbrev c (n : Fin 2048) := angleOf (k0_pay198 x0 x1 x2 x3) n

/-- The first side-chain joint: frame 5 is frame 4 followed by frame 5's own rigid motion. -/
theorem frame5 (n : Fin 2048) :
    k0_pay263 x0 x1 x2 x3 (ix2 0 n) = rot (F x0 x1 x2 x3 n) (s x0 x1 x2 x3 n) (c x0 x1 x2 x3 n) 5 0 0
    ∧ k0_pay264 x0 x1 x2 x3 (ix2 0 n) = rot (F x0 x1 x2 x3 n) (s x0 x1 x2 x3 n) (c x0 x1 x2 x3 n) 5 0 1
    ∧ k0_pay265 x0 x1 x2 x3 (ix2 0 n) = rot (F x0 x1 x2 x3 n) (s x0 x1 x2 x3 n) (c x0 x1 x2 x3 n) 5 0 2
    ∧ k0_pay266 x0 x1 x2 x3 (ix2 0 n) = rot (F x0 x1 x2 x3 n) (s x0 x1 x2 x3 n) (c x0 x1 x2 x3 n) 5 1 0
    ∧ k0_pay267 x0 x1 x2 x3 (ix2 0 n) = rot (F x0 x1 x2 x3 n) (s x0 x1 x2 x3 n) (c x0 x1 x2 x3 n) 5 1 1
    ∧ k0_pay268 x0 x1 x2 x3 (ix2 0 n) = rot (F x0 x1 x2 x3 n) (s x0 x1 x2 x3 n) (c x0 x1 x2 x3 n) 5 1 2
    ∧ k0_pay269 x0 x1 x2 x3 (ix2 0 n) = rot (F x0 x1 x2 x3 n) (s x0 x1 x2 x3 n) (c x0 x1 x2 x3 n) 5 2 0
    ∧ k0_pay270 x0 x1 x2 x3 (ix2 0 n) = rot (F x0 x1 x2 x3 n) (s x0 x1 x2 x3 n) (c x0 x1 x2 x3 n) 5 2 1
    ∧ k0_pay271 x0 x1 x2 x3 (ix2 0 n) = rot (F x0 x1 x2 x3 n) (s x0 x1 x2 x3 n) (c x0 x1 x2 x3 n) 5 2 2
    ∧ k0_pay272 x0 x1 x2 x3 (ix2 0 n) = origin (F x0 x1 x2 x3 n) (T x0 x1 x2 x3 n) (s x0 x1 x2 x3 n) (c x0 x1 x2 x3 n) 5 0
    ∧ k0_pay273 x0 x1 x2 x3 (ix2 0 n) = origin (F x0 x1 x2 x3 n) (T x0 x1 x2 x3 n) (s x0 x1 x2 x3 n) (c x0 x1 x2 x3 n) 5 1
    ∧ k0_pay274 x0 x1 x2 x3 (ix2 0 n) = origin (F x0 x1 x2 x3 n) (T x0 x1 x2 x3 n) (s x0 x1 x2 x3 n) (c x0 x1 x2 x3 n) 5 2 := by
  refine ⟨?_, ?_, ?_, ?_, ?_, ?_, ?_, ?_, ?_, ?_, ?_, ?_⟩ <;>
    pointwise [F, T, s, c, rotOf, transOf, angleOf, turned, times, moved, rot, origin, k0_pay196, k0_pay197, k0_pay198,
    k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay61,
    k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay109, k0_pay110, k0_pay111,
    k0_pay112, k0_pay113, k0_pay114, k0_pay121, k0_pay122, k0_pay123, k0_pay124, k0_pay125, k0_pay126,
    k0_pay127, k0_pay128, k0_pay129, k0_pay130, k0_pay131, k0_pay132, k0_pay133, k0_pay134, k0_pay199,
    k0_pay200, k0_pay201, k0_pay202, k0_pay203, k0_pay204, k0_pay205, k0_pay206, k0_pay207, k0_pay208,
    k0_pay209, k0_pay210, k0_pay211, k0_pay214, k0_pay215, k0_pay216, k0_pay217, k0_pay218, k0_pay219,
    k0_pay220, k0_pay221, k0_pay222, k0_pay223, k0_pay224, k0_pay225, k0_pay226, k0_pay227, k0_pay228,
    k0_pay229, k0_pay230, k0_pay231, k0_pay232, k0_pay251, k0_pay252, k0_pay253, k0_pay254, k0_pay255,
    k0_pay256, k0_pay263, k0_pay264, k0_pay265, k0_pay266, k0_pay267, k0_pay268, k0_pay269, k0_pay270,
    k0_pay271, k0_pay272, k0_pay273, k0_pay274]

/-- The second side-chain joint: frame 6 is the chained frame 5 followed by frame 6's own rigid motion. -/
theorem frame6 (n : Fin 2048) :
    k0_pay275 x0 x1 x2 x3 (ix2 0 n) = rot (F x0 x1 x2 x3 n) (s x0 x1 x2 x3 n) (c x0 x1 x2 x3 n) 6 0 0
    ∧ k0_pay276 x0 x1 x2 x3 (ix2 0 n) = rot (F x0 x1 x2 x3 n) (s x0 x1 x2 x3 n) (c x0 x1 x2 x3 n) 6 0 1
    ∧ k0_pay279 x0 x1 x2 x3 (ix2 0 n) = rot (F x0 x1 x2 x3 n) (s x0 x1 x2 x3 n) (c x0 x1 x2 x3 n) 6 0 2
    ∧ k0_pay280 x0 x1 x2 x3 (ix2 0 n) = rot (F x0 x1 x2 x3 n) (s x0 x1 x2 x3 n) (c x0 x1 x2 x3 n) 6 1 0
    ∧ k0_pay281 x0 x1 x2 x3 (ix2 0 n) = rot (F x0 x1 x2 x3 n) (s x0 x1 x2 x3 n) (c x0 x1 x2 x3 n) 6 1 1
    ∧ k0_pay282 x0 x1 x2 x3 (ix2 0 n) = rot (F x0 x1 x2 x3 n) (s x0 x1 x2 x3 n) (c x0 x1 x2 x3 n) 6 1 2
    ∧ k0_pay283 x0 x1 x2 x3 (ix2 0 n) = rot (F x0 x1 x2 x3 n) (s x0 x1 x2 x3 n) (c x0 x1 x2 x3 n) 6 2 0
    ∧ k0_pay284 x0 x1 x2 x3 (ix2 0 n) = rot (F x0 x1 x2 x3 n) (s x0 x1 x2 x3 n) (c x0 x1 x2 x3 n) 6 2 1
    ∧ k0_pay285 x0 x1 x2 x3 (ix2 0 n) = rot (F x0 x1 x2 x3 n) (s x0 x1 x2 x3 n) (c x0 x1 x2 x3 n) 6 2 2
    ∧ k0_pay286 x0 x1 x2 x3 (ix2 0 n) = origin (F x0 x1 x2 x3 n) (T x0 x1 x2 x3 n) (s x0 x1 x2 x3 n) (c x0 x1 x2 x3 n) 6 0
    ∧ k0_pay287 x0 x1 x2 x3 (ix2 0 n) = origin (F x0 x1 x2 x3 n) (T x0 x1 x2 x3 n) (s x0 x1 x2 x3 n) (c x0 x1 x2 x3 n) 6 1
    ∧ k0_pay288 x0 x1 x2 x3 (ix2 0 n) = origin (F x0 x1 x2 x3 n) (T x0 x1 x2 x3 n) (s x0 x1 x2 x3 n) (c x0 x1 x2 x3 n) 6 2 := by
  obtain ⟨h263, h264, h265, h266, h267, h268, h269, h270, h271, h272, h273, h274⟩ := frame5 x0 x1 x2 x3 n
  pointwise [F, T, s, c, rotOf, transOf, angleOf, turned, times, moved, rot, origin, k0_pay196, k0_pay197, k0_pay198] at h263 h264 h265 h266 h267 h268 h269 h270 h271 h272 h273 h274
  refine ⟨?_, ?_, ?_, ?_, ?_, ?_, ?_, ?_, ?_, ?_, ?_, ?_⟩ <;>
    pointwise [F, T, s, c, rotOf, transOf, angleOf, turned, times, moved, rot, origin, k0_pay196, k0_pay197, k0_pay198,
    k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay79,
    k0_pay80, k0_pay81, k0_pay82, k0_pay83, k0_pay84, k0_pay85, k0_pay86, k0_pay87, k0_pay115, k0_pay116,
    k0_pay117, k0_pay135, k0_pay136, k0_pay137, k0_pay138, k0_pay139, k0_pay140, k0_pay141, k0_pay142,
    k0_pay143, k0_pay144, k0_pay145, k0_pay146, k0_pay147, k0_pay148, k0_pay199, k0_pay200, k0_pay201,
    k0_pay202, k0_pay203, k0_pay204, k0_pay205, k0_pay206, k0_pay207, k0_pay208, k0_pay209, k0_pay210,
    k0_pay211, k0_pay212, k0_pay213, k0_pay214, k0_pay233, k0_pay234, k0_pay235, k0_pay236, k0_pay237,
    k0_pay238, k0_pay239, k0_pay240, k0_pay241, k0_pay257, k0_pay258, k0_pay259, k0_pay275, k0_pay276,
    k0_pay277, k0_pay278, k0_pay279, k0_pay280, k0_pay281, k0_pay282, k0_pay283, k0_pay284, k0_pay285,
    k0_pay286, k0_pay287, k0_pay288] <;>
    simp only [h263, h264, h265, h266, h267, h268, h269, h270, h271, h272, h273, h274]

/-- 4.0, as an extended real. -/
theorem ofBits_four : Ideal.ofBits .f32 0x40800000#32 = ((4 : ℝ) : EReal) := by
  simp [Ideal.ofBits, Ideal.ieee, -EReal.coe_mul]; norm_num

/-- 2.0, as an extended real. -/
theorem ofBits_two : Ideal.ofBits .f32 0x40000000#32 = ((2 : ℝ) : EReal) := by
  simp [Ideal.ofBits, Ideal.ieee, -EReal.coe_mul]; norm_num

/-- The three bits of an atom's group number, as the body takes them off the number it selected from the table: four
    or more, then two or more of what is left, then one. -/
theorem bits_eq (a : Fin 37) (n : Fin 2048) (g : Fin 8)
    (hg : k0_pay196 x0 x1 x2 x3 (ix2 ⟨216 + a.val, by omega⟩ n) = ((g.val : ℝ) : EReal)) :
    k0_pay293 x0 x1 x2 x3 (ix2 a n) = BitVec.ofBool (decide (4 ≤ g.val))
    ∧ k0_pay294 x0 x1 x2 x3 (ix2 a n) = BitVec.ofBool (decide (2 ≤ g.val % 4))
    ∧ k0_pay295 x0 x1 x2 x3 (ix2 a n) = BitVec.ofBool (decide (1 ≤ g.val % 2))
    ∧ k0_pay169 (k0_pay292 x0 x1 x2 x3) (k0_pay293 x0 x1 x2 x3) (Scalar.ofBits .f32 0x40800000#32) (ix2 a n)
        = BitVec.ofBool (decide (1 ≤ g.val % 2))
    ∧ k0_pay168 (k0_pay292 x0 x1 x2 x3) (k0_pay293 x0 x1 x2 x3) (Scalar.ofBits .f32 0x40800000#32) (ix2 a n)
        = BitVec.ofBool (decide (2 ≤ g.val % 4)) := by
  have h1 : (1 : EReal) = ((1 : ℝ) : EReal) := rfl
  have hz : -((0 : ℝ) : EReal) = ((0 : ℝ) : EReal) := by simp
  have h0 : (0 : EReal) = ((0 : ℝ) : EReal) := rfl
  refine ⟨?_, ?_, ?_, ?_, ?_⟩ <;>
    pointwise [k0_pay292, k0_pay293, k0_pay294, k0_pay295, k0_pay165, k0_pay166, k0_pay167, k0_pay168, k0_pay169] <;>
    rw [hg] <;> simp only [ofBits_four, ofBits_two, h1, h0] <;> fin_cases g <;>
    norm_num [← EReal.coe_sub, hz, -EReal.coe_one, -EReal.coe_zero]

/-- The selection tree's result for entry (0, 0) of the rotation. -/
noncomputable def r00 : FVec Ideal S37x2048 .f32 :=
  k0_pay170 (k0_pay25 (k0_pay199 x0 x1 x2 x3)) (k0_pay34 (k0_pay199 x0 x1 x2 x3)) (k0_pay43 (k0_pay199 x0 x1 x2
    x3)) (k0_pay52 (k0_pay199 x0 x1 x2 x3)) (k0_pay215 x0 x1 x2 x3) (k0_pay263 x0 x1 x2 x3) (k0_pay275 x0 x1 x2 x3)
    (k0_pay149 (k0_pay242 x0 x1 x2 x3) (k0_pay245 x0 x1 x2 x3) (k0_pay248 x0 x1 x2 x3) (k0_pay275 x0 x1 x2 x3)
    (k0_pay276 x0 x1 x2 x3) (k0_pay277 x0 x1 x2 x3) (k0_pay278 x0 x1 x2 x3)) (k0_pay292 x0 x1 x2 x3) (k0_pay293 x0
    x1 x2 x3) (Scalar.ofBits .f32 0x40800000#32)

/-- The selection tree's result for entry (0, 1) of the rotation. -/
noncomputable def r01 : FVec Ideal S37x2048 .f32 :=
  k0_pay175 (k0_pay293 x0 x1 x2 x3) (k0_pay294 x0 x1 x2 x3) (k0_pay171 (k0_pay26 (k0_pay207 x0 x1 x2 x3))
    (k0_pay35 (k0_pay207 x0 x1 x2 x3)) (k0_pay292 x0 x1 x2 x3) (k0_pay293 x0 x1 x2 x3) (Scalar.ofBits .f32
    0x40800000#32)) (k0_pay172 (k0_pay44 (k0_pay207 x0 x1 x2 x3)) (k0_pay53 (k0_pay207 x0 x1 x2 x3)) (k0_pay292 x0
    x1 x2 x3) (k0_pay293 x0 x1 x2 x3) (Scalar.ofBits .f32 0x40800000#32)) (k0_pay173 (k0_pay216 x0 x1 x2 x3)
    (k0_pay264 x0 x1 x2 x3) (k0_pay292 x0 x1 x2 x3) (k0_pay293 x0 x1 x2 x3) (Scalar.ofBits .f32 0x40800000#32))
    (k0_pay174 (k0_pay276 x0 x1 x2 x3) (k0_pay150 (k0_pay243 x0 x1 x2 x3) (k0_pay246 x0 x1 x2 x3) (k0_pay249 x0 x1
    x2 x3) (k0_pay275 x0 x1 x2 x3) (k0_pay276 x0 x1 x2 x3) (k0_pay277 x0 x1 x2 x3) (k0_pay278 x0 x1 x2 x3))
    (k0_pay292 x0 x1 x2 x3) (k0_pay293 x0 x1 x2 x3) (Scalar.ofBits .f32 0x40800000#32))

/-- The selection tree's result for entry (0, 2) of the rotation. -/
noncomputable def r02 : FVec Ideal S37x2048 .f32 :=
  k0_pay176 (k0_pay27 (k0_pay208 x0 x1 x2 x3)) (k0_pay36 (k0_pay208 x0 x1 x2 x3)) (k0_pay45 (k0_pay208 x0 x1 x2
    x3)) (k0_pay54 (k0_pay208 x0 x1 x2 x3)) (k0_pay217 x0 x1 x2 x3) (k0_pay265 x0 x1 x2 x3) (k0_pay279 x0 x1 x2 x3)
    (k0_pay152 (k0_pay247 x0 x1 x2 x3) (k0_pay250 x0 x1 x2 x3) (k0_pay276 x0 x1 x2 x3) (k0_pay279 x0 x1 x2 x3)
    (k0_pay151 (k0_pay244 x0 x1 x2 x3) (k0_pay275 x0 x1 x2 x3))) (k0_pay293 x0 x1 x2 x3) (k0_pay294 x0 x1 x2 x3)
    (k0_pay295 x0 x1 x2 x3)

/-- The selection tree's result for entry (1, 0) of the rotation. -/
noncomputable def r10 : FVec Ideal S37x2048 .f32 :=
  k0_pay177 (k0_pay28 (k0_pay200 x0 x1 x2 x3)) (k0_pay37 (k0_pay200 x0 x1 x2 x3)) (k0_pay46 (k0_pay200 x0 x1 x2
    x3)) (k0_pay55 (k0_pay200 x0 x1 x2 x3)) (k0_pay218 x0 x1 x2 x3) (k0_pay266 x0 x1 x2 x3) (k0_pay280 x0 x1 x2 x3)
    (k0_pay153 (k0_pay242 x0 x1 x2 x3) (k0_pay245 x0 x1 x2 x3) (k0_pay248 x0 x1 x2 x3) (k0_pay280 x0 x1 x2 x3)
    (k0_pay281 x0 x1 x2 x3) (k0_pay282 x0 x1 x2 x3)) (k0_pay293 x0 x1 x2 x3) (k0_pay294 x0 x1 x2 x3) (k0_pay295 x0
    x1 x2 x3)

/-- The selection tree's result for entry (1, 1) of the rotation. -/
noncomputable def r11 : FVec Ideal S37x2048 .f32 :=
  k0_pay181 (k0_pay219 x0 x1 x2 x3) (k0_pay281 x0 x1 x2 x3) (k0_pay154 (k0_pay243 x0 x1 x2 x3) (k0_pay246 x0 x1 x2
    x3) (k0_pay249 x0 x1 x2 x3) (k0_pay280 x0 x1 x2 x3) (k0_pay281 x0 x1 x2 x3) (k0_pay282 x0 x1 x2 x3)) (k0_pay293
    x0 x1 x2 x3) (k0_pay294 x0 x1 x2 x3) (k0_pay295 x0 x1 x2 x3) (k0_pay178 (k0_pay29 (k0_pay209 x0 x1 x2 x3))
    (k0_pay38 (k0_pay209 x0 x1 x2 x3)) (k0_pay295 x0 x1 x2 x3)) (k0_pay179 (k0_pay47 (k0_pay209 x0 x1 x2 x3))
    (k0_pay56 (k0_pay209 x0 x1 x2 x3)) (k0_pay295 x0 x1 x2 x3)) (k0_pay180 (k0_pay267 x0 x1 x2 x3))

/-- The selection tree's result for entry (1, 2) of the rotation. -/
noncomputable def r12 : FVec Ideal S37x2048 .f32 :=
  k0_pay182 (k0_pay30 (k0_pay210 x0 x1 x2 x3) (k0_pay211 x0 x1 x2 x3)) (k0_pay39 (k0_pay210 x0 x1 x2 x3)
    (k0_pay211 x0 x1 x2 x3)) (k0_pay48 (k0_pay210 x0 x1 x2 x3) (k0_pay211 x0 x1 x2 x3)) (k0_pay57 (k0_pay210 x0 x1
    x2 x3) (k0_pay211 x0 x1 x2 x3)) (k0_pay220 x0 x1 x2 x3) (k0_pay268 x0 x1 x2 x3) (k0_pay282 x0 x1 x2 x3)
    (k0_pay155 (k0_pay244 x0 x1 x2 x3) (k0_pay247 x0 x1 x2 x3) (k0_pay250 x0 x1 x2 x3) (k0_pay280 x0 x1 x2 x3)
    (k0_pay281 x0 x1 x2 x3) (k0_pay282 x0 x1 x2 x3)) (k0_pay293 x0 x1 x2 x3) (k0_pay294 x0 x1 x2 x3) (k0_pay295 x0
    x1 x2 x3)

/-- The selection tree's result for entry (2, 0) of the rotation. -/
noncomputable def r20 : FVec Ideal S37x2048 .f32 :=
  k0_pay183 (k0_pay31 (k0_pay201 x0 x1 x2 x3)) (k0_pay40 (k0_pay201 x0 x1 x2 x3)) (k0_pay49 (k0_pay201 x0 x1 x2
    x3)) (k0_pay58 (k0_pay201 x0 x1 x2 x3)) (k0_pay221 x0 x1 x2 x3) (k0_pay269 x0 x1 x2 x3) (k0_pay283 x0 x1 x2 x3)
    (k0_pay156 (k0_pay242 x0 x1 x2 x3) (k0_pay245 x0 x1 x2 x3) (k0_pay248 x0 x1 x2 x3) (k0_pay283 x0 x1 x2 x3)
    (k0_pay284 x0 x1 x2 x3) (k0_pay285 x0 x1 x2 x3)) (k0_pay293 x0 x1 x2 x3) (k0_pay294 x0 x1 x2 x3) (k0_pay295 x0
    x1 x2 x3)

/-- The selection tree's result for entry (2, 1) of the rotation. -/
noncomputable def r21 : FVec Ideal S37x2048 .f32 :=
  k0_pay185 (k0_pay32 (k0_pay197 x0 x1 x2 x3) (k0_pay198 x0 x1 x2 x3) (k0_pay202 x0 x1 x2 x3) (k0_pay203 x0 x1 x2
    x3)) (k0_pay50 (k0_pay197 x0 x1 x2 x3) (k0_pay198 x0 x1 x2 x3) (k0_pay202 x0 x1 x2 x3) (k0_pay203 x0 x1 x2 x3))
    (k0_pay59 (k0_pay197 x0 x1 x2 x3) (k0_pay198 x0 x1 x2 x3) (k0_pay202 x0 x1 x2 x3) (k0_pay203 x0 x1 x2 x3))
    (k0_pay222 x0 x1 x2 x3) (k0_pay270 x0 x1 x2 x3) (k0_pay284 x0 x1 x2 x3) (k0_pay157 (k0_pay243 x0 x1 x2 x3)
    (k0_pay246 x0 x1 x2 x3) (k0_pay249 x0 x1 x2 x3) (k0_pay283 x0 x1 x2 x3) (k0_pay284 x0 x1 x2 x3) (k0_pay285 x0 x1
    x2 x3)) (k0_pay293 x0 x1 x2 x3) (k0_pay294 x0 x1 x2 x3) (k0_pay295 x0 x1 x2 x3) (k0_pay184 (k0_pay41 (k0_pay197
    x0 x1 x2 x3) (k0_pay198 x0 x1 x2 x3) (k0_pay202 x0 x1 x2 x3) (k0_pay203 x0 x1 x2 x3)))

/-- The selection tree's result for entry (2, 2) of the rotation. -/
noncomputable def r22 : FVec Ideal S37x2048 .f32 :=
  k0_pay186 (k0_pay33 (k0_pay197 x0 x1 x2 x3) (k0_pay198 x0 x1 x2 x3) (k0_pay202 x0 x1 x2 x3) (k0_pay203 x0 x1 x2
    x3)) (k0_pay42 (k0_pay197 x0 x1 x2 x3) (k0_pay198 x0 x1 x2 x3) (k0_pay202 x0 x1 x2 x3) (k0_pay203 x0 x1 x2 x3))
    (k0_pay51 (k0_pay197 x0 x1 x2 x3) (k0_pay198 x0 x1 x2 x3) (k0_pay202 x0 x1 x2 x3) (k0_pay203 x0 x1 x2 x3))
    (k0_pay60 (k0_pay197 x0 x1 x2 x3) (k0_pay198 x0 x1 x2 x3) (k0_pay202 x0 x1 x2 x3) (k0_pay203 x0 x1 x2 x3))
    (k0_pay223 x0 x1 x2 x3) (k0_pay271 x0 x1 x2 x3) (k0_pay285 x0 x1 x2 x3) (k0_pay158 (k0_pay244 x0 x1 x2 x3)
    (k0_pay247 x0 x1 x2 x3) (k0_pay250 x0 x1 x2 x3) (k0_pay283 x0 x1 x2 x3) (k0_pay284 x0 x1 x2 x3) (k0_pay285 x0 x1
    x2 x3)) (k0_pay293 x0 x1 x2 x3) (k0_pay294 x0 x1 x2 x3) (k0_pay295 x0 x1 x2 x3)

/-- The selection tree's result for coordinate 0 of the translation. -/
noncomputable def t0 : FVec Ideal S37x2048 .f32 :=
  k0_pay191 (k0_pay286 x0 x1 x2 x3) (k0_pay293 x0 x1 x2 x3) (k0_pay294 x0 x1 x2 x3) (k0_pay295 x0 x1 x2 x3)
    (k0_pay187 (k0_pay97 (k0_pay204 x0 x1 x2 x3)) (k0_pay100 (k0_pay204 x0 x1 x2 x3)) (k0_pay295 x0 x1 x2 x3))
    (k0_pay188 (k0_pay103 (k0_pay204 x0 x1 x2 x3)) (k0_pay106 (k0_pay204 x0 x1 x2 x3)) (k0_pay295 x0 x1 x2 x3))
    (k0_pay189 (k0_pay251 x0 x1 x2 x3) (k0_pay272 x0 x1 x2 x3) (k0_pay295 x0 x1 x2 x3)) (k0_pay190 (k0_pay159
    (k0_pay260 x0 x1 x2 x3) (k0_pay261 x0 x1 x2 x3) (k0_pay262 x0 x1 x2 x3) (k0_pay275 x0 x1 x2 x3) (k0_pay276 x0 x1
    x2 x3) (k0_pay279 x0 x1 x2 x3) (k0_pay286 x0 x1 x2 x3)))

/-- The selection tree's result for coordinate 1 of the translation. -/
noncomputable def t1 : FVec Ideal S37x2048 .f32 :=
  k0_pay192 (k0_pay98 (k0_pay205 x0 x1 x2 x3)) (k0_pay101 (k0_pay205 x0 x1 x2 x3)) (k0_pay104 (k0_pay205 x0 x1 x2
    x3)) (k0_pay107 (k0_pay205 x0 x1 x2 x3)) (k0_pay252 x0 x1 x2 x3) (k0_pay273 x0 x1 x2 x3) (k0_pay287 x0 x1 x2 x3)
    (k0_pay160 (k0_pay260 x0 x1 x2 x3) (k0_pay261 x0 x1 x2 x3) (k0_pay262 x0 x1 x2 x3) (k0_pay280 x0 x1 x2 x3)
    (k0_pay281 x0 x1 x2 x3) (k0_pay282 x0 x1 x2 x3) (k0_pay287 x0 x1 x2 x3)) (k0_pay293 x0 x1 x2 x3) (k0_pay294 x0
    x1 x2 x3) (k0_pay295 x0 x1 x2 x3)

/-- The selection tree's result for coordinate 2 of the translation. -/
noncomputable def t2 : FVec Ideal S37x2048 .f32 :=
  k0_pay193 (k0_pay99 (k0_pay206 x0 x1 x2 x3)) (k0_pay102 (k0_pay206 x0 x1 x2 x3)) (k0_pay105 (k0_pay206 x0 x1 x2
    x3)) (k0_pay108 (k0_pay206 x0 x1 x2 x3)) (k0_pay253 x0 x1 x2 x3) (k0_pay274 x0 x1 x2 x3) (k0_pay288 x0 x1 x2 x3)
    (k0_pay161 (k0_pay260 x0 x1 x2 x3) (k0_pay261 x0 x1 x2 x3) (k0_pay262 x0 x1 x2 x3) (k0_pay283 x0 x1 x2 x3)
    (k0_pay284 x0 x1 x2 x3) (k0_pay285 x0 x1 x2 x3) (k0_pay288 x0 x1 x2 x3)) (k0_pay293 x0 x1 x2 x3) (k0_pay294 x0
    x1 x2 x3) (k0_pay295 x0 x1 x2 x3)

/-- The selection tree picks the frame the atom's group number names: its nine rotation entries and its three
    translation coordinates. -/
theorem picked (a : Fin 37) (n : Fin 2048) (g : Fin 8)
    (hg : k0_pay196 x0 x1 x2 x3 (ix2 ⟨216 + a.val, by omega⟩ n) = ((g.val : ℝ) : EReal)) :
    r00 x0 x1 x2 x3 (ix2 a n) = rot (F x0 x1 x2 x3 n) (s x0 x1 x2 x3 n) (c x0 x1 x2 x3 n) g 0 0
    ∧ r01 x0 x1 x2 x3 (ix2 a n) = rot (F x0 x1 x2 x3 n) (s x0 x1 x2 x3 n) (c x0 x1 x2 x3 n) g 0 1
    ∧ r02 x0 x1 x2 x3 (ix2 a n) = rot (F x0 x1 x2 x3 n) (s x0 x1 x2 x3 n) (c x0 x1 x2 x3 n) g 0 2
    ∧ r10 x0 x1 x2 x3 (ix2 a n) = rot (F x0 x1 x2 x3 n) (s x0 x1 x2 x3 n) (c x0 x1 x2 x3 n) g 1 0
    ∧ r11 x0 x1 x2 x3 (ix2 a n) = rot (F x0 x1 x2 x3 n) (s x0 x1 x2 x3 n) (c x0 x1 x2 x3 n) g 1 1
    ∧ r12 x0 x1 x2 x3 (ix2 a n) = rot (F x0 x1 x2 x3 n) (s x0 x1 x2 x3 n) (c x0 x1 x2 x3 n) g 1 2
    ∧ r20 x0 x1 x2 x3 (ix2 a n) = rot (F x0 x1 x2 x3 n) (s x0 x1 x2 x3 n) (c x0 x1 x2 x3 n) g 2 0
    ∧ r21 x0 x1 x2 x3 (ix2 a n) = rot (F x0 x1 x2 x3 n) (s x0 x1 x2 x3 n) (c x0 x1 x2 x3 n) g 2 1
    ∧ r22 x0 x1 x2 x3 (ix2 a n) = rot (F x0 x1 x2 x3 n) (s x0 x1 x2 x3 n) (c x0 x1 x2 x3 n) g 2 2
    ∧ t0 x0 x1 x2 x3 (ix2 a n) = origin (F x0 x1 x2 x3 n) (T x0 x1 x2 x3 n) (s x0 x1 x2 x3 n) (c x0 x1 x2 x3 n) g 0
    ∧ t1 x0 x1 x2 x3 (ix2 a n) = origin (F x0 x1 x2 x3 n) (T x0 x1 x2 x3 n) (s x0 x1 x2 x3 n) (c x0 x1 x2 x3 n) g 1
    ∧ t2 x0 x1 x2 x3 (ix2 a n) = origin (F x0 x1 x2 x3 n) (T x0 x1 x2 x3 n) (s x0 x1 x2 x3 n) (c x0 x1 x2 x3 n) g 2 := by
  obtain ⟨b2, b1, b0, b0', b1'⟩ := bits_eq x0 x1 x2 x3 a n g hg
  obtain ⟨h263, h264, h265, h266, h267, h268, h269, h270, h271, h272, h273, h274⟩ := frame5 x0 x1 x2 x3 n
  obtain ⟨h275, h276, h279, h280, h281, h282, h283, h284, h285, h286, h287, h288⟩ := frame6 x0 x1 x2 x3 n
  clear hg
  pointwise [F, T, s, c, rotOf, transOf, angleOf, turned, times, moved, rot, origin, k0_pay196, k0_pay197, k0_pay198] at h263 h264 h265 h266 h267 h268 h269 h270 h271 h272 h273 h274 h275 h276 h279 h280 h281 h282 h283 h284 h285 h286 h287 h288 b0' b1'
  refine ⟨?_, ?_, ?_, ?_, ?_, ?_, ?_, ?_, ?_, ?_, ?_, ?_⟩ <;>
    pointwise [r00, r01, r02, r10, r11, r12, r20, r21, r22, t0, t1, t2, k0_pay5, k0_pay6, k0_pay7, k0_pay8, k0_pay9,
    k0_pay10, k0_pay11, k0_pay12, k0_pay13, k0_pay14, k0_pay15, k0_pay16, k0_pay17, k0_pay18, k0_pay19,
    k0_pay20, k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38, k0_pay39,
    k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69,
    k0_pay81, k0_pay84, k0_pay87, k0_pay88, k0_pay89, k0_pay90, k0_pay91, k0_pay92, k0_pay93, k0_pay94,
    k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay118, k0_pay119,
    k0_pay120, k0_pay137, k0_pay138, k0_pay139, k0_pay149, k0_pay150, k0_pay151, k0_pay152, k0_pay153,
    k0_pay154, k0_pay155, k0_pay156, k0_pay157, k0_pay158, k0_pay159, k0_pay160, k0_pay161, k0_pay170,
    k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188,
    k0_pay189, k0_pay190, k0_pay191, k0_pay192, k0_pay193, k0_pay199, k0_pay200, k0_pay201, k0_pay202,
    k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220,
    k0_pay221, k0_pay222, k0_pay223, k0_pay235, k0_pay238, k0_pay241, k0_pay242, k0_pay243, k0_pay244,
    k0_pay245, k0_pay246, k0_pay247, k0_pay248, k0_pay249, k0_pay250, k0_pay251, k0_pay252, k0_pay253,
    k0_pay260, k0_pay261, k0_pay262, k0_pay277, k0_pay278] <;>
    simp only [b2, b1, b0, b0', b1', h263, h264, h265, h266, h267, h268, h269, h270, h271, h272, h273, h274, h275, h276, h279, h280, h281, h282, h283, h284, h285, h286, h287, h288] <;> clear h263 h264 h265 h266 h267 h268 h269 h270 h271 h272 h273 h274 h275 h276 h279 h280 h281 h282 h283 h284 h285 h286 h287 h288 b2 b1 b0 b0' b1' <;>
    fin_cases g <;> pointwise [F, T, s, c, rotOf, transOf, angleOf, turned, times, moved, rot, origin, k0_pay196, k0_pay197, k0_pay198]

end

end Cert.KernelIdeal.Lane
-- ==== Proof.Block.lean ====
/- One block of the output from one block of each input: row `n`, column 3 a + i is coordinate i of atom a of residue n. -/
module

public import proofs.«01_k».proof.Proof.Lane

@[expose] public section

namespace Cert.KernelIdeal.Lane
open Idealize.ShloMosaic Cert.KernelIdeal.Gen Cert.Rigid
set_option maxRecDepth 16384

section
variable (x0 : Vec Ideal S1x1x2048 .i32) (x1 : Vec Ideal S2x7x2048 .f32) (x2 : Vec Ideal S512x32 .bf16)
  (x3 : Vec Ideal S240x111 .bf16)

/-- Coordinate `i` of atom `a` of residue `n`, from the selected frame and the atom's place in it. -/
noncomputable def spot (i : Fin 3) (a : Fin 37) (n : Fin 2048) : EReal :=
  match i with
  | 0 => k0_pay289 x0 x1 x2 x3 (ix2 a n) * r00 x0 x1 x2 x3 (ix2 a n) + k0_pay290 x0 x1 x2 x3 (ix2 a n) * r10 x0 x1 x2 x3 (ix2 a n)
      + k0_pay291 x0 x1 x2 x3 (ix2 a n) * r20 x0 x1 x2 x3 (ix2 a n) + t0 x0 x1 x2 x3 (ix2 a n)
  | 1 => k0_pay289 x0 x1 x2 x3 (ix2 a n) * r01 x0 x1 x2 x3 (ix2 a n) + k0_pay290 x0 x1 x2 x3 (ix2 a n) * r11 x0 x1 x2 x3 (ix2 a n)
      + k0_pay291 x0 x1 x2 x3 (ix2 a n) * r21 x0 x1 x2 x3 (ix2 a n) + t1 x0 x1 x2 x3 (ix2 a n)
  | 2 => k0_pay289 x0 x1 x2 x3 (ix2 a n) * r02 x0 x1 x2 x3 (ix2 a n) + k0_pay290 x0 x1 x2 x3 (ix2 a n) * r12 x0 x1 x2 x3 (ix2 a n)
      + k0_pay291 x0 x1 x2 x3 (ix2 a n) * r22 x0 x1 x2 x3 (ix2 a n) + t2 x0 x1 x2 x3 (ix2 a n)

/-- The 240 rows the body permutes into columns: coordinate by coordinate, the 37 atoms' high parts, three rows of
    zeros, the 37 low parts, three rows of zeros. -/
noncomputable def stacked : FVec Ideal S240x2048 .bf16 :=
  have p0 : FVec Ideal S37x2048 .f32 := addf (k0_pay195 (k0_pay289 x0 x1 x2 x3) (k0_pay290 x0 x1 x2 x3)
    (k0_pay291 x0 x1 x2 x3) (r00 x0 x1 x2 x3) (r10 x0 x1 x2 x3) (r20 x0 x1 x2 x3)) (t0 x0 x1 x2 x3)
  have p1 : FVec Ideal S37x2048 .f32 := addf (addf (addf (mulf (k0_pay289 x0 x1 x2 x3) (r01 x0 x1 x2 x3))
    (mulf (k0_pay290 x0 x1 x2 x3) (r11 x0 x1 x2 x3))) (mulf (k0_pay291 x0 x1 x2 x3) (r21 x0 x1 x2 x3))) (t1 x0 x1 x2 x3)
  have p2 : FVec Ideal S37x2048 .f32 := addf (addf (addf (mulf (k0_pay289 x0 x1 x2 x3) (r02 x0 x1 x2 x3))
    (mulf (k0_pay290 x0 x1 x2 x3) (r12 x0 x1 x2 x3))) (mulf (k0_pay291 x0 x1 x2 x3) (r22 x0 x1 x2 x3))) (t2 x0 x1 x2 x3)
  have hi (p : FVec Ideal S37x2048 .f32) : FVec Ideal S37x2048 .bf16 := truncf .bf16 p bitsLt_bf16_f32
  have lo (p : FVec Ideal S37x2048 .f32) : FVec Ideal S37x2048 .bf16 :=
    truncf .bf16 (subf p (extf .f32 (hi p) bitsLt_bf16_f32)) bitsLt_bf16_f32
  have z : FVec Ideal S3x2048 .bf16 := k0_pay194
  concatenate S240x2048 0 [⟨S37x2048, hi p0⟩, ⟨S3x2048, z⟩, ⟨S37x2048, lo p0⟩, ⟨S3x2048, z⟩, ⟨S37x2048, hi p1⟩, ⟨S3x2048, z⟩,
      ⟨S37x2048, lo p1⟩, ⟨S3x2048, z⟩, ⟨S37x2048, hi p2⟩, ⟨S3x2048, z⟩, ⟨S37x2048, lo p2⟩, ⟨S3x2048, z⟩]
    concatenates_S37x2048_S3x2048_S37x2048_S3x2048_S37x2048_S3x2048_S37x2048_S3x2048_S37x2048_S3x2048_S37x2048_S3x2048_S240x2048_d0

/-- The block the body writes is the stacked rows, transposed, times the permutation block. -/
theorem out_apply (n : Fin 2048) (k : Fin 111) :
    out0_4 x0 x1 x2 x3 (ix2 n k) = ∑ q : Fin 240, stacked x0 x1 x2 x3 (ix2 q n) * x3 (ix2 q k) := by
  have h : out0_4 x0 x1 x2 x3 = (matmul dot_S240x2048_S240x111_S2048x111_0_0_1_1_n_n none (stacked x0 x1 x2 x3)
      (shapeCast S240x111 (View.ld x3 r0_4) shapeCasts_S240x111_S240x111 : FVec Ideal S240x111 .bf16)
      (constant S2048x111 .f32 0x00000000#32) : FVec Ideal S2048x111 .f32) := by
    unfold out0_4
    rw [View.canon_unit_zero (by funext a; fin_cases a <;> rfl)]
    rfl
  rw [h, View.ld_unit_zero (by funext a; fin_cases a <;> rfl)]
  generalize stacked x0 x1 x2 x3 = X
  pointwise []

/-- A stack of pieces read at a row of one of its 37-row pieces. -/
theorem stack_row (xs : List ((s : Shape) × (s.Idx → EReal))) (h : Shape.Concatenates (xs.map (·.1)) S240x2048 0)
    (k : Nat) (hk : k < xs.length) (p : S37x2048.Idx → EReal) (hp : xs[k] = ⟨S37x2048, p⟩) (pre : Nat)
    (hpre : (((xs.take k).map (·.1)).map fun s => if h : s.rank = S240x2048.rank then s.size ((0 : Fin 2).cast h.symm) else 0).sum = pre)
    (a : Fin 37) (n : Fin 2048) (hq : pre + a.val < 240) :
    concatenate S240x2048 0 xs h (ix2 ⟨pre + a.val, hq⟩ n) = p (ix2 a n) := by
  refine concatenate_apply_piece 0 xs h _ k hk S37x2048 p hp rfl pre hpre (ix2 a n) ?_ rfl
  intro b hb
  fin_cases b
  · exact absurd rfl hb
  · rfl

/-- Row 80 i + a of the stacked rows is atom a's coordinate i. -/
theorem stacked_hi (a : Fin 37) (n : Fin 2048) (i : Fin 3) :
    stacked x0 x1 x2 x3 (ix2 ⟨80 * i.val + a.val, by omega⟩ n) = spot x0 x1 x2 x3 i a n := by
  unfold stacked
  fin_cases i
  · exact (stack_row _ _ 0 (by simp) _ rfl 0 rfl a n _).trans rfl
  · exact (stack_row _ _ 4 (by simp) _ rfl 80 rfl a n _).trans rfl
  · exact (stack_row _ _ 8 (by simp) _ rfl 160 rfl a n _).trans rfl

/-- Row 80 i + 40 + a is what is left of that coordinate once it is taken off itself. -/
theorem stacked_lo (a : Fin 37) (n : Fin 2048) (i : Fin 3) :
    stacked x0 x1 x2 x3 (ix2 ⟨80 * i.val + 40 + a.val, by omega⟩ n)
      = spot x0 x1 x2 x3 i a n - spot x0 x1 x2 x3 i a n := by
  unfold stacked
  fin_cases i
  · exact (stack_row _ _ 2 (by simp) _ rfl 40 rfl a n _).trans rfl
  · exact (stack_row _ _ 6 (by simp) _ rfl 120 rfl a n _).trans rfl
  · exact (stack_row _ _ 10 (by simp) _ rfl 200 rfl a n _).trans rfl

/-- The permutation block the body is handed: row q goes to column 3 (q mod 40) + q / 80, and nowhere for the padding
    rows. -/
def Permutes : Prop :=
  ∀ (q : Fin 240) (k : Fin 111), x3 (ix2 q k) = if q.val % 40 < 37 ∧ q.val % 40 * 3 + q.val / 80 = k.val then 1 else 0

/-- A finite number is what the two halves of its split add up to. -/
theorem add_sub_self {x : EReal} (ht : x ≠ ⊤) (hb : x ≠ ⊥) : x + (x - x) = x := by
  rw [EReal.sub_self ht hb, add_zero]

/-- Row n, column 3 a + i of the block the body writes is coordinate i of atom a of residue n, where that is finite. -/
theorem out_spot (hP : Permutes x3) (n : Fin 2048) (a : Fin 37) (i : Fin 3)
    (ht : spot x0 x1 x2 x3 i a n ≠ ⊤) (hb : spot x0 x1 x2 x3 i a n ≠ ⊥) :
    out0_4 x0 x1 x2 x3 (ix2 n ⟨3 * a.val + i.val, by omega⟩) = spot x0 x1 x2 x3 i a n := by
  rw [out_apply, Fintype.sum_eq_add (⟨80 * i.val + a.val, by omega⟩ : Fin 240) ⟨80 * i.val + 40 + a.val, by omega⟩]
  · rw [stacked_hi, stacked_lo, hP, hP, if_pos (by dsimp only; omega), if_pos (by dsimp only; omega), mul_one, mul_one,
      add_sub_self ht hb]
  · intro h; have := congrArg Fin.val h; simp only at this; omega
  · intro q ⟨h1, h2⟩
    rw [hP, if_neg, mul_zero]
    rintro ⟨h3, h4⟩
    have h1' : q.val ≠ 80 * i.val + a.val := fun h => h1 (Fin.ext h)
    have h2' : q.val ≠ 80 * i.val + 40 + a.val := fun h => h2 (Fin.ext h)
    have h5 : q.val / 80 = i.val := by simp only at h4; omega
    have h6 : q.val % 40 = a.val := by simp only at h4; omega
    omega

/-- Atom `a`'s place in its own frame, in the block: coordinate j is row 96 + 40 j + a of the selected table column. -/
noncomputable def litOf (G : FVec Ideal S256x2048 .f32) (a : Fin 37) (n : Fin 2048) (j : Fin 3) : EReal :=
  G (ix2 ⟨96 + 40 * j.val + a.val, by omega⟩ n)

/-- The coordinates the body computes are the reference mathematics of one residue and one atom, over the numbers
    selected from the table. -/
theorem spot_eq (a : Fin 37) (n : Fin 2048) (i : Fin 3) (g : Fin 8)
    (hg : k0_pay196 x0 x1 x2 x3 (ix2 ⟨216 + a.val, by omega⟩ n) = ((g.val : ℝ) : EReal)) :
    spot x0 x1 x2 x3 i a n = place (F x0 x1 x2 x3 n) (T x0 x1 x2 x3 n) (s x0 x1 x2 x3 n) (c x0 x1 x2 x3 n) g
      (litOf (k0_pay196 x0 x1 x2 x3) a n) i := by
  obtain ⟨h00, h01, h02, h10, h11, h12, h20, h21, h22, h0, h1, h2⟩ := picked x0 x1 x2 x3 a n g hg
  have l0 : k0_pay289 x0 x1 x2 x3 (ix2 a n) = litOf (k0_pay196 x0 x1 x2 x3) a n 0 := by
    pointwise [k0_pay289, k0_pay162, litOf]
  have l1 : k0_pay290 x0 x1 x2 x3 (ix2 a n) = litOf (k0_pay196 x0 x1 x2 x3) a n 1 := by
    pointwise [k0_pay290, k0_pay163, litOf]
  have l2 : k0_pay291 x0 x1 x2 x3 (ix2 a n) = litOf (k0_pay196 x0 x1 x2 x3) a n 2 := by
    pointwise [k0_pay291, k0_pay164, litOf]
  fin_cases i <;> simp only [spot, place, l0, l1, l2, h00, h01, h02, h10, h11, h12, h20, h21, h22, h0, h1, h2] <;> rfl

end

end Cert.KernelIdeal.Lane
-- ==== Proof.Table.lean ====
/-
  What the host code before the launch lays out for the kernel: the table of the 21 residue kinds, the torsion columns and the permutation matrix, each entry as an
  entry of an argument.
-/
module

public import proofs.«01_k».proof.Proof.Block
public import Idealize.ShloMosaic.Lib.Pipeline.ValueKit
public import Idealize.ShloMosaic.Lib.StableHlo.ReadAt

@[expose] public section

namespace Cert.KernelIdeal.Lane
open Idealize.ShloMosaic Idealize.ShloMosaic.TcCoe Cert.KernelIdeal.Gen Cert.Rigid
open Idealize.ShloMosaic (Ideal)
set_option maxRecDepth 16384

variable (m : (ℓ : Loc nD τ sig) → Buf (Elt Ideal) ℓ) (c : Dev nD)

/-- A row of matrices stacked on top of each other is the row of the piece it falls in. -/
theorem piece_row {A K : Nat} (xs : List ((s : Shape) × (s.Idx → EReal)))
    (h : Shape.Concatenates (xs.map (·.1)) ⟨2, ![A, K]⟩ 0) (p : Nat) (hp : p < xs.length) (B : Nat)
    (x : Shape.Idx ⟨2, ![B, K]⟩ → EReal) (hx : xs[p] = ⟨⟨2, ![B, K]⟩, x⟩) (pre : Nat)
    (hpre : (((xs.take p).map (·.1)).map fun s => if h : s.rank = 2 then s.size ((0 : Fin 2).cast h.symm) else 0).sum = pre)
    (a : Fin B) (r : Fin A) (hr : pre + a.val = r.val) (k : Fin K) :
    concatenate ⟨2, ![A, K]⟩ 0 xs h (ix2 r k) = x (ix2 a k) :=
  concatenate_apply_piece 0 xs h _ p hp _ x hx rfl pre hpre (ix2 a k)
    (by intro b hb; fin_cases b <;> simp_all) hr

/-- The table: a row for each quantity, a column for each residue kind. -/
noncomputable def table : Shape.Idx ⟨2, ![256, 21]⟩ → EReal :=
  StableHlo.after hostOps0 (fun b => m (c, b)) (Proc.devRef .tc main_v20)

/-- The rotation rows of the table are the rotation entries of the default frames. -/
theorem table_rot (j i : Fin 3) (g : Fin 8) (k : Fin 21) :
    table m c (ix2 ⟨(3*j.val+i.val)*8+g.val, by omega⟩ k)
      = m (c, Proc.tc.devRef main_arg2) (ix4 k g ⟨j.val, by omega⟩ ⟨i.val, by omega⟩) := by
  unfold table
  after_reads_simp
  refine (piece_row _ _ 0 (by simp) 72 _ rfl 0 rfl ⟨(3*j.val+i.val)*8+g.val, by omega⟩ _ (by simp) k).trans ?_
  dsimp only [Matrix.cons_val]
  after_reads_at

/-- The origin rows of the table are the last column of the default frames. -/
theorem table_origin (i : Fin 3) (g : Fin 8) (k : Fin 21) :
    table m c (ix2 ⟨72+i.val*8+g.val, by omega⟩ k)
      = m (c, Proc.tc.devRef main_arg2) (ix4 k g ⟨i.val, by omega⟩ 3) := by
  unfold table
  after_reads_simp
  refine (piece_row _ _ 1 (by simp) 24 _ rfl 72 rfl ⟨i.val*8+g.val, by omega⟩ _ (by simp; omega) k).trans ?_
  dsimp only [Matrix.cons_val]
  after_reads_at

/-- The position rows of the table are the ideal atom positions. -/
theorem table_lit (j : Fin 3) (a : Fin 37) (k : Fin 21) :
    table m c (ix2 ⟨96+40*j.val+a.val, by omega⟩ k) = m (c, Proc.tc.devRef main_arg4) (ix3 k a j) := by
  unfold table
  after_reads_simp
  rcases (by omega : j = 0 ∨ j = 1 ∨ j = 2) with rfl | rfl | rfl
  · refine (piece_row _ _ 2 (by simp) 37 _ rfl 96 rfl a _ (by simp) k).trans ?_
    dsimp only [Matrix.cons_val]
    after_reads_at
  · refine (piece_row _ _ 4 (by simp) 37 _ rfl 136 rfl a _ (by simp) k).trans ?_
    dsimp only [Matrix.cons_val]
    after_reads_at
  · refine (piece_row _ _ 6 (by simp) 37 _ rfl 176 rfl a _ (by simp) k).trans ?_
    dsimp only [Matrix.cons_val]
    after_reads_at

/-- The last rows of the table hold the number of each atom's group. -/
theorem table_group (a : Fin 37) (k : Fin 21) :
    table m c (ix2 ⟨216+a.val, by omega⟩ k)
      = (((m (c, Proc.tc.devRef main_arg3) (ix2 k a) : BitVec 32).toInt : ℝ) : EReal) := by
  unfold table
  after_reads_simp
  refine (piece_row _ _ 8 (by simp) 37 _ rfl 216 rfl a _ (by simp) k).trans ?_
  dsimp only [Matrix.cons_val]
  after_reads_at
  rfl

/-- What the host code does after the table is laid out. -/
noncomputable abbrev afterTable : List (HloOp τ sig (Elt Ideal)) :=
  List.flatten [hostOps0_1, hostOps0_2, hostOps0_3, hostOps0_4, hostOps0_5, hostOps0_6]

/-- The table the kernel loads is built from the table. -/
theorem loaded : V m c main_v26
    = StableHlo.after afterTable (StableHlo.after hostOps0 (fun b => m (c, b))) (Proc.devRef .tc main_v26) := by
  unfold V V0
  rw [← StableHlo.after_append]
  rfl

/-- The upper half of the table the kernel loads is the table. -/
theorem upper (r : Fin 256) (k : Fin 21) :
    V m c main_v26 (ix2 ⟨r.val, by omega⟩ ⟨k.val, by omega⟩) = table m c (ix2 r k) := by
  rw [loaded, table]
  generalize StableHlo.after hostOps0 (fun b => m (c, b)) = W
  after_reads_simp
  refine (piece_row _ _ 0 (by simp) 256 _ rfl 0 rfl r _ (by simp) _).trans ?_
  simp -implicitDefEqProofs only [StableHlo.TRef.toBuf, StableHlo.TRef.ofBuf, cast_cast, cast_eq]
  clean_types
  pointwise

/-- The lower half is what the upper half leaves of the table. -/
theorem lower (r : Fin 256) (k : Fin 21) :
    V m c main_v26 (ix2 ⟨256+r.val, by omega⟩ ⟨k.val, by omega⟩) = table m c (ix2 r k) - table m c (ix2 r k) := by
  rw [loaded, table]
  generalize StableHlo.after hostOps0 (fun b => m (c, b)) = W
  after_reads_simp
  refine (piece_row _ _ 1 (by simp) 256 _ rfl 256 rfl r _ (by simp) _).trans ?_
  simp -implicitDefEqProofs only [StableHlo.TRef.toBuf, StableHlo.TRef.ofBuf, cast_cast, cast_eq]
  clean_types
  pointwise

/-- The kernel sees the residue kinds as one row. -/
theorem kinds (t : Fin 32) (n : Fin 2048) :
    V m c main_v0 (ix3 t 0 n)
      = m (c, Proc.tc.devRef main_arg0) (ix2 ⟨(t.val*2048+n.val)/4096, by omega⟩ ⟨(t.val*2048+n.val)%4096, by omega⟩) := by
  unfold V V0
  after_reads_at
  congr 2 <;> (apply Fin.ext; simp only []; omega)

/-- The kernel sees sines and cosines of the torsions as rows, residues along the columns. -/
theorem torsions (i : Fin 2) (j : Fin 7) (n : Fin 65536) :
    V m c main_v2 (ix3 i j n)
      = m (c, Proc.tc.devRef main_arg1) (ix4 ⟨n.val/4096, by omega⟩ ⟨n.val%4096, by omega⟩ j i) := by
  unfold V V0
  after_reads_at

/-- Two small numbers are the same word only where they are the same number. -/
theorem word_inj {a b : Nat} (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

/-- The matrix the kernel multiplies its rows by puts them in the order of the result. -/
theorem permutes : Permutes (V m c main_v44) := by
  intro q k
  have e : V m c main_v44 (ix2 q k) = FloatOps.uitofp (F := Ideal) .bf16
      (IntOp.andi (IntOp.cmpi .eq (BitVec.ofNat 32 k.val) (BitVec.ofNat 32 (q.val % 40 * 3 + q.val / 80)))
        (BitVec.ofBool (decide (q.val % 40 < 37)))) := by
    unfold V V0
    after_reads_at
    refine congrArg _ (congrArg₂ _ (congrArg₂ _ rfl ?_) ?_)
    · revert q; decide +kernel
    · revert q; decide +kernel
  have hw := word_inj (a := k.val) (b := q.val % 40 * 3 + q.val / 80) (by omega) (by omega)
  have hc : IntOp.cmpi .eq (BitVec.ofNat 32 k.val) (BitVec.ofNat 32 (q.val % 40 * 3 + q.val / 80))
      = BitVec.ofBool (decide (k.val = q.val % 40 * 3 + q.val / 80)) := by
    rw [← Bool.decide_congr hw]; rfl
  rw [e, hc]
  by_cases h : q.val % 40 < 37 <;> by_cases h' : k.val = q.val % 40 * 3 + q.val / 80
  · rw [if_pos ⟨h, h'.symm⟩, decide_eq_true h, decide_eq_true h']
    show ((((1#1 : BitVec 1).toNat : ℕ) : ℝ) : EReal) = 1
    simp
  all_goals
    rw [if_neg (by omega)]
    simp only [h, h', decide_true, decide_false]
    show ((((0#1 : BitVec 1).toNat : ℕ) : ℝ) : EReal) = 0
    simp

/-- One column of the table, picked by a one-hot vector. -/
theorem pick (f : Fin 32 → EReal) (k : Fin 32) (v : BitVec 32) (hv : v = BitVec.ofNat 32 k.val) :
    (∑ x : Fin 32, f x * FloatOps.sitofp (F := Ideal) FTy.f32 (BitVec.setWidth 32 (IntOp.cmpi .eq (BitVec.ofNat 32 x.val) v))) = f k := by
  have one : FloatOps.sitofp (F := Ideal) FTy.f32 (1#32) = (1 : EReal) := by
    show (((1#32 : BitVec 32).toInt : ℝ) : EReal) = 1
    simp
  have zero : FloatOps.sitofp (F := Ideal) FTy.f32 (0#32) = (0 : EReal) := by
    show (((0#32 : BitVec 32).toInt : ℝ) : EReal) = 0
    simp
  rw [Finset.sum_eq_single k]
  · subst hv
    simp [IntOp.cmpi, one]
  · intro x _ hx
    have : ¬ BitVec.ofNat 32 x.val = v := by
      rw [hv, word_inj (by omega) (by omega)]; omega
    have h' : (BitVec.ofNat 32 x.val == v) = false := by simpa using this
    simp only [IntOp.cmpi, h']
    rw [show BitVec.setWidth 32 (BitVec.ofBool false) = 0#32 from rfl, zero, mul_zero]
  · simp

/-- A column the kernel picks from the loaded table is the table's, if that is finite. -/
theorem column (x0 : Vec Ideal S1x1x2048 .i32) (x1 : Vec Ideal S2x7x2048 .f32) (x2 : Vec Ideal S512x32 .bf16)
    (x3 : Vec Ideal S240x111 .bf16) (T : Shape.Idx ⟨2, ![256, 21]⟩ → EReal)
    (hu : ∀ (r : Fin 256) (k : Fin 21), x2 (ix2 ⟨r.val, by omega⟩ ⟨k.val, by omega⟩) = T (ix2 r k))
    (hl : ∀ (r : Fin 256) (k : Fin 21), x2 (ix2 ⟨256+r.val, by omega⟩ ⟨k.val, by omega⟩) = T (ix2 r k) - T (ix2 r k))
    (n : Fin 2048) (k : Fin 21) (hk : x0 (ix3 0 0 n) = BitVec.ofNat 32 k.val) (r : Fin 256)
    (ht : T (ix2 r k) ≠ ⊤) (hb : T (ix2 r k) ≠ ⊥) :
    k0_pay196 x0 x1 x2 x3 (ix2 r n) = T (ix2 r k) := by
  have e : k0_pay196 x0 x1 x2 x3 (ix2 r n) = x2 (ix2 ⟨r.val, by omega⟩ ⟨k.val, by omega⟩)
      + x2 (ix2 ⟨256+r.val, by omega⟩ ⟨k.val, by omega⟩) := by
    rw [k0_pay196, View.ld_unit_zero (by funext a; fin_cases a <;> rfl), View.ld_unit_zero (by funext a; fin_cases a <;> rfl)]
    pointwise [k0_pay2]
    refine congrArg₂ _ (pick (fun x => x2 (ix2 ⟨r.val, by omega⟩ x)) ⟨k.val, by omega⟩ _ hk)
      (pick (fun x => x2 (ix2 ⟨256+r.val, by omega⟩ x)) ⟨k.val, by omega⟩ _ hk)
  rw [e, hu, hl]
  exact add_sub_self ht hb

/-- The sine rows are a zero row over the given sines. -/
theorem sines (x0 : Vec Ideal S1x1x2048 .i32) (x1 : Vec Ideal S2x7x2048 .f32) (x2 : Vec Ideal S512x32 .bf16)
    (x3 : Vec Ideal S240x111 .bf16) (n : Fin 2048) (g : Fin 8) :
    k0_pay197 x0 x1 x2 x3 (ix2 g n) = if h : g.val < 1 then 0 else x1 (ix3 0 ⟨g.val - 1, by omega⟩ n) := by
  pointwise [k0_pay197, k0_pay3]

/-- The cosine rows are a row of ones over the given cosines. -/
theorem cosines (x0 : Vec Ideal S1x1x2048 .i32) (x1 : Vec Ideal S2x7x2048 .f32) (x2 : Vec Ideal S512x32 .bf16)
    (x3 : Vec Ideal S240x111 .bf16) (n : Fin 2048) (g : Fin 8) :
    k0_pay198 x0 x1 x2 x3 (ix2 g n) = if h : g.val < 1 then 1 else x1 (ix3 1 ⟨g.val - 1, by omega⟩ n) := by
  pointwise [k0_pay198, k0_pay4]

end Cert.KernelIdeal.Lane
-- ==== Proof.Model.lean ====
/- The position of an atom as the five arguments give it, and that it is a finite number where they are. -/
module

public import proofs.«01_k».proof.Proof.Spec

@[expose] public section

namespace Cert.Rigid
open Idealize.ShloMosaic

/-- A number that is neither of the two infinities. -/
def Finite (x : EReal) : Prop := ∃ r : ℝ, (r : EReal) = x

namespace Finite
variable {x y : EReal}

theorem add (hx : Finite x) (hy : Finite y) : Finite (x + y) := by
  obtain ⟨a, rfl⟩ := hx; obtain ⟨b, rfl⟩ := hy; exact ⟨a + b, EReal.coe_add a b⟩
theorem sub (hx : Finite x) (hy : Finite y) : Finite (x - y) := by
  obtain ⟨a, rfl⟩ := hx; obtain ⟨b, rfl⟩ := hy; exact ⟨a - b, EReal.coe_sub a b⟩
theorem mul (hx : Finite x) (hy : Finite y) : Finite (x * y) := by
  obtain ⟨a, rfl⟩ := hx; obtain ⟨b, rfl⟩ := hy; exact ⟨a * b, EReal.coe_mul a b⟩
theorem ne_top (hx : Finite x) : x ≠ ⊤ := by
  obtain ⟨a, rfl⟩ := hx; exact EReal.coe_ne_top a
theorem ne_bot (hx : Finite x) : x ≠ ⊥ := by
  obtain ⟨a, rfl⟩ := hx; exact EReal.coe_ne_bot a
/-- A number is finite if taking it from itself leaves zero. -/
theorem of_sub_self (h : x - x = 0) : Finite x := by
  induction x with
  | bot => simp at h
  | coe r => exact ⟨r, rfl⟩
  | top => simp at h

end Finite

section
variable {F : Fin 8 → Fin 3 → Fin 3 → EReal} {T : Fin 8 → Fin 3 → EReal} {s c : Fin 8 → EReal}
  (hF : ∀ g j i, Finite (F g j i)) (hT : ∀ g i, Finite (T g i)) (hs : ∀ g, Finite (s g)) (hc : ∀ g, Finite (c g))
include hF hs hc

theorem turned_finite (g : Fin 8) (j i : Fin 3) : Finite (turned F s c g j i) := by
  unfold turned
  split
  · exact hF _ _ _
  · exact ((hc _).mul (hF _ _ _)).add ((hs _).mul (hF _ _ _))
  · exact ((hc _).mul (hF _ _ _)).sub ((hs _).mul (hF _ _ _))

omit hF hs hc in
theorem times_finite {p q : Fin 3 → Fin 3 → EReal} (hp : ∀ j i, Finite (p j i)) (hq : ∀ j i, Finite (q j i)) (j i : Fin 3) :
    Finite (times p q j i) :=
  (((hp _ _).mul (hq _ _)).add ((hp _ _).mul (hq _ _))).add ((hp _ _).mul (hq _ _))

omit hF hs hc in
theorem moved_finite {p : Fin 3 → Fin 3 → EReal} {u v : Fin 3 → EReal} (hp : ∀ j i, Finite (p j i)) (hu : ∀ j, Finite (u j))
    (hv : ∀ j, Finite (v j)) (j : Fin 3) : Finite (moved p u v j) :=
  ((((hp _ _).mul (hv _)).add ((hp _ _).mul (hv _))).add ((hp _ _).mul (hv _))).add (hu _)

theorem rot_finite (g : Fin 8) : ∀ j i, Finite (rot F s c g j i) := by
  have h := turned_finite hF hs hc
  unfold rot
  split
  · exact times_finite (h _) (h _)
  · exact times_finite (times_finite (h _) (h _)) (h _)
  · exact times_finite (times_finite (times_finite (h _) (h _)) (h _)) (h _)
  · exact h _

include hT

theorem origin_finite (g : Fin 8) : ∀ i, Finite (origin F T s c g i) := by
  have h := turned_finite hF hs hc
  have hr := rot_finite hF hs hc
  unfold origin
  split
  · exact moved_finite (h _) (hT _) (hT _)
  · exact moved_finite (hr _) (moved_finite (h _) (hT _) (hT _)) (hT _)
  · exact moved_finite (hr _) (moved_finite (hr _) (moved_finite (h _) (hT _) (hT _)) (hT _)) (hT _)
  · exact hT _

/-- An atom's coordinates are finite where its frames, its torsions and its place in the frame are. -/
theorem place_finite (g : Fin 8) {p : Fin 3 → EReal} (hp : ∀ j, Finite (p j)) (i : Fin 3) : Finite (place F T s c g p i) := by
  have hr := rot_finite hF hs hc g
  exact ((((hp _).mul (hr _ _)).add ((hp _).mul (hr _ _))).add ((hp _).mul (hr _ _))).add (origin_finite hF hT hs hc g i)

end

section
variable (kinds : Shape.Idx ⟨2, ![16, 4096]⟩ → BitVec 32) (torsions : Shape.Idx ⟨4, ![16, 4096, 7, 2]⟩ → EReal)
  (frames : Shape.Idx ⟨4, ![21, 8, 4, 4]⟩ → EReal) (groups : Shape.Idx ⟨2, ![21, 37]⟩ → BitVec 32)
  (places : Shape.Idx ⟨3, ![21, 37, 3]⟩ → EReal)

/-- The kind of residue `l` of chain `b`, one of 21. -/
def kind (b : Fin 16) (l : Fin 4096) : Fin 21 := ⟨(kinds (ix2 b l)).toNat % 21, Nat.mod_lt _ (by omega)⟩

/-- The frame that atom `a` of a residue of kind `k` belongs to, one of eight. -/
def group (k : Fin 21) (a : Fin 37) : Fin 8 := ⟨(groups (ix2 k a)).toNat % 8, Nat.mod_lt _ (by omega)⟩

/-- The sine each frame is turned by: none for the first frame, the given one for the others. -/
noncomputable def sine (b : Fin 16) (l : Fin 4096) (g : Fin 8) : EReal :=
  if h : g.val < 1 then 0 else torsions (ix4 b l ⟨g.val - 1, by omega⟩ 0)

/-- The cosine each frame is turned by: one for the first frame, the given one for the others. -/
noncomputable def cosine (b : Fin 16) (l : Fin 4096) (g : Fin 8) : EReal :=
  if h : g.val < 1 then 1 else torsions (ix4 b l ⟨g.val - 1, by omega⟩ 1)

/-- The rotation part of the default frames of kind `k`. -/
noncomputable def frameRot (k : Fin 21) (g : Fin 8) (j i : Fin 3) : EReal :=
  frames (ix4 k g ⟨j.val, by omega⟩ ⟨i.val, by omega⟩)

/-- The origins of the default frames of kind `k`. -/
noncomputable def frameOrigin (k : Fin 21) (g : Fin 8) (i : Fin 3) : EReal := frames (ix4 k g ⟨i.val, by omega⟩ 3)

/-- Coordinate `i` of atom `a` of residue `l` of chain `b`. -/
noncomputable def atom (b : Fin 16) (l : Fin 4096) (a : Fin 37) (i : Fin 3) : EReal :=
  place (frameRot frames (kind kinds b l)) (frameOrigin frames (kind kinds b l)) (sine torsions b l) (cosine torsions b l)
    (group groups (kind kinds b l) a) (fun j => places (ix3 (kind kinds b l) a j)) i

/-- What the arguments are asked to be: kinds and groups in range, the numbers finite (of a frame its first three rows, the only
    ones in use). -/
structure Drawn : Prop where
  kinds_lt : ∀ b l, (kinds (ix2 b l)).toNat < 21
  groups_lt : ∀ k a, (groups (ix2 k a)).toNat < 8
  torsions_finite : ∀ b l g x, Finite (torsions (ix4 b l g x))
  frames_finite : ∀ k g (j : Fin 3) i, Finite (frames (ix4 k g ⟨j.val, by omega⟩ i))
  places_finite : ∀ k a j, Finite (places (ix3 k a j))

variable {kinds torsions frames groups places} (h : Drawn kinds torsions frames groups places)
include h

/-- The word a residue's kind is given as. -/
theorem Drawn.kind_word (b : Fin 16) (l : Fin 4096) : kinds (ix2 b l) = BitVec.ofNat 32 (kind kinds b l).val := by
  have := h.kinds_lt b l
  apply BitVec.eq_of_toNat_eq
  simp only [kind, BitVec.toNat_ofNat]
  omega

/-- The word an atom's group is given as. -/
theorem Drawn.group_word (k : Fin 21) (a : Fin 37) : groups (ix2 k a) = BitVec.ofNat 32 (group groups k a).val := by
  have := h.groups_lt k a
  apply BitVec.eq_of_toNat_eq
  simp only [group, BitVec.toNat_ofNat]
  omega

theorem Drawn.sine_finite (b : Fin 16) (l : Fin 4096) (g : Fin 8) : Finite (sine torsions b l g) := by
  unfold sine; split
  · exact ⟨0, rfl⟩
  · exact h.torsions_finite _ _ _ _

theorem Drawn.cosine_finite (b : Fin 16) (l : Fin 4096) (g : Fin 8) : Finite (cosine torsions b l g) := by
  unfold cosine; split
  · exact ⟨1, rfl⟩
  · exact h.torsions_finite _ _ _ _

/-- Every coordinate of every atom is finite. -/
theorem Drawn.atom_finite (b : Fin 16) (l : Fin 4096) (a : Fin 37) (i : Fin 3) :
    Finite (atom kinds torsions frames groups places b l a i) :=
  place_finite (fun _ _ _ => h.frames_finite _ _ _ _) (fun _ _ => h.frames_finite _ _ _ _) (h.sine_finite b l)
    (h.cosine_finite b l) _ (fun _ => h.places_finite _ _ _) i

end

end Cert.Rigid
-- ==== Proof.Array.lean ====
/- The array the kernel writes, block by block, is the atoms' coordinates. -/
module

public import proofs.«01_k».proof.Proof.Table
public import proofs.«01_k».proof.Proof.Model

@[expose] public section

namespace Cert.KernelIdeal.Lane
open Idealize.ShloMosaic Idealize.ShloMosaic.TcCoe Cert.KernelIdeal.Gen Cert.Rigid
open Idealize.ShloMosaic (Ideal)
set_option maxRecDepth 16384

variable (m : (ℓ : Loc nD τ sig) → Buf (Elt Ideal) ℓ) (c : Dev nD)

theorem index0 : ∀ t, win0_0.index t = ![t.val, 0, 0] := by decide +kernel
theorem index1 : ∀ t, win0_1.index t = ![0, 0, t.val] := by decide +kernel
theorem index2 : ∀ t, win0_2.index t = ![0, 0] := by decide +kernel
theorem index3 : ∀ t, win0_3.index t = ![0, 0] := by decide +kernel
theorem index4 : ∀ t, win0_4.index t = ![t.val, 0] := by decide +kernel

theorem block0 (t : Fin 32) (n : Fin 2048) : iblk m c 0 t (ix3 0 0 n) = V m c main_v0 (ix3 t 0 n) := by
  blk_point [iblk, index0 t]
theorem block1 (t : Fin 32) (i : Fin 2) (j : Fin 7) (n : Fin 2048) :
    iblk m c 1 t (ix3 i j n) = V m c main_v2 (ix3 i j ⟨t.val * 2048 + n.val, by omega⟩) := by
  blk_point [iblk, index1 t]
theorem block2 (t : Fin 32) : iblk m c 2 t = V m c main_v26 := by
  funext y
  idx_vars y
  blk_point [iblk, index2 t]
theorem block3 (t : Fin 32) : iblk m c 3 t = V m c main_v44 := by
  funext y
  idx_vars y
  blk_point [iblk, index3 t]

/-- The kinds, as launched. -/
abbrev kindsOf : Shape.Idx ⟨2, ![16, 4096]⟩ → BitVec 32 := m (c, Proc.tc.devRef main_arg0)
/-- The torsions, as launched. -/
abbrev torsionsOf : Shape.Idx ⟨4, ![16, 4096, 7, 2]⟩ → EReal := m (c, Proc.tc.devRef main_arg1)
/-- The default frames, as launched. -/
abbrev framesOf : Shape.Idx ⟨4, ![21, 8, 4, 4]⟩ → EReal := m (c, Proc.tc.devRef main_arg2)
/-- The groups, as launched. -/
abbrev groupsOf : Shape.Idx ⟨2, ![21, 37]⟩ → BitVec 32 := m (c, Proc.tc.devRef main_arg3)
/-- The ideal positions, as launched. -/
abbrev placesOf : Shape.Idx ⟨3, ![21, 37, 3]⟩ → EReal := m (c, Proc.tc.devRef main_arg4)

/-- The launched arguments are in range and finite. -/
abbrev Good : Prop := Drawn (kindsOf m c) (torsionsOf m c) (framesOf m c) (groupsOf m c) (placesOf m c)

/-- The coordinates of the atoms, of the launched arguments. -/
noncomputable abbrev atomOf := atom (kindsOf m c) (torsionsOf m c) (framesOf m c) (groupsOf m c) (placesOf m c)

/-- The chain of the `n`-th residue of block `t`. -/
abbrev chain (t : Fin 32) (n : Fin 2048) : Fin 16 := ⟨(t.val * 2048 + n.val) / 4096, by omega⟩
/-- Its place in the chain. -/
abbrev spotIn (t : Fin 32) (n : Fin 2048) : Fin 4096 := ⟨(t.val * 2048 + n.val) % 4096, by omega⟩
/-- Its kind. -/
abbrev kindOf (t : Fin 32) (n : Fin 2048) : Fin 21 := kind (kindsOf m c) (chain t n) (spotIn t n)

variable {m c} (hD : Good m c)
include hD

/-- The row of the table the body picks for a residue, where it is finite. -/
theorem picked_row (t : Fin 32) (n : Fin 2048) (r : Fin 256) {v : EReal} (hv : table m c (ix2 r (kindOf m c t n)) = v)
    (hf : Finite v) :
    k0_pay196 (iblk m c 0 t) (iblk m c 1 t) (iblk m c 2 t) (iblk m c 3 t) (ix2 r n) = v := by
  subst hv
  refine column _ _ _ _ (table m c) (fun r k => ?_) (fun r k => ?_) n (kindOf m c t n) ?_ r hf.ne_top hf.ne_bot
  · rw [block2]; exact upper m c r k
  · rw [block2]; exact lower m c r k
  · rw [block0, kinds]; exact hD.kind_word _ _

/-- Coordinate `i` of atom `a` of the `n`-th residue of block `t`, as the body computes it. -/
theorem spot_atom (t : Fin 32) (n : Fin 2048) (a : Fin 37) (i : Fin 3) :
    spot (iblk m c 0 t) (iblk m c 1 t) (iblk m c 2 t) (iblk m c 3 t) i a n = atomOf m c (chain t n) (spotIn t n) a i := by
  have hg : k0_pay196 (iblk m c 0 t) (iblk m c 1 t) (iblk m c 2 t) (iblk m c 3 t) (ix2 ⟨216 + a.val, by omega⟩ n)
      = (((group (groupsOf m c) (kindOf m c t n) a).val : ℝ) : EReal) := by
    refine picked_row hD t n _ ?_ ⟨_, rfl⟩
    rw [table_group]
    show (((groupsOf m c (ix2 (kindOf m c t n) a)).toInt : ℝ) : EReal) = _
    rw [hD.group_word, BitVec.toInt_ofNat', Int.bmod_eq_of_le (by omega) (by omega)]
    norm_cast
  rw [spot_eq _ _ _ _ a n i _ hg]
  have eF : F (iblk m c 0 t) (iblk m c 1 t) (iblk m c 2 t) (iblk m c 3 t) n = frameRot (framesOf m c) (kindOf m c t n) := by
    funext g j i
    exact picked_row hD t n _ (table_rot m c j i g _) (hD.frames_finite _ _ _ _)
  have eT : T (iblk m c 0 t) (iblk m c 1 t) (iblk m c 2 t) (iblk m c 3 t) n = frameOrigin (framesOf m c) (kindOf m c t n) := by
    funext g i
    exact picked_row hD t n _ (table_origin m c i g _) (hD.frames_finite _ _ _ _)
  have es : s (iblk m c 0 t) (iblk m c 1 t) (iblk m c 2 t) (iblk m c 3 t) n = sine (torsionsOf m c) (chain t n) (spotIn t n) := by
    funext g
    show k0_pay197 _ _ _ _ (ix2 g n) = _
    rw [sines]
    unfold sine
    split
    · rfl
    · rw [block1, torsions]
  have ec : Lane.c (iblk m c 0 t) (iblk m c 1 t) (iblk m c 2 t) (iblk m c 3 t) n = cosine (torsionsOf m c) (chain t n) (spotIn t n) := by
    funext g
    show k0_pay198 _ _ _ _ (ix2 g n) = _
    rw [cosines]
    unfold cosine
    split
    · rfl
    · rw [block1, torsions]
  have el : litOf (k0_pay196 (iblk m c 0 t) (iblk m c 1 t) (iblk m c 2 t) (iblk m c 3 t)) a n
      = fun j => placesOf m c (ix3 (kindOf m c t n) a j) := by
    funext j
    exact picked_row hD t n _ (table_lit m c j a _) (hD.places_finite _ _ _)
  rw [eF, eT, es, ec, el]
  rfl

/-- One entry of the block the body writes. -/
theorem out_atom (t : Fin 32) (n : Fin 2048) (a : Fin 37) (i : Fin 3) :
    out0_4 (iblk m c 0 t) (iblk m c 1 t) (iblk m c 2 t) (iblk m c 3 t) (ix2 n ⟨3 * a.val + i.val, by omega⟩)
      = atomOf m c (chain t n) (spotIn t n) a i := by
  have hs := spot_atom hD t n a i
  have hf : Finite (spot (iblk m c 0 t) (iblk m c 1 t) (iblk m c 2 t) (iblk m c 3 t) i a n) := hs ▸ hD.atom_finite _ _ _ _
  rw [out_spot _ _ _ _ (by rw [block3]; exact permutes m c) n a i hf.ne_top hf.ne_bot, hs]

omit hD in
variable (m c) in
/-- The array of the atoms' coordinates, a row for each residue. -/
noncomputable def rows : Shape.Idx ⟨2, ![65536, 111]⟩ → EReal := fun y =>
  atomOf m c ⟨(y 0).val / 4096, by have : (y 0).val < 65536 := (y 0).isLt; omega⟩ ⟨(y 0).val % 4096, by omega⟩
    ⟨(y 1).val / 3, by have : (y 1).val < 111 := (y 1).isLt; omega⟩ ⟨(y 1).val % 3, by omega⟩

/-- The array the kernel writes holds the atoms' coordinates. -/
theorem array : (dats m 0 c).arrAt 4 cfg0.N = rows m c := by
  refine (dats m 0 c).arrAt_eq_of_covers 4 _ (by decide +kernel) fun t hf y => ?_
  rw [after0_4]
  idx_vars y
  have e := out_atom hD t y0 ⟨y1.val / 3, by omega⟩ ⟨y1.val % 3, by omega⟩
  have hq : (⟨3 * (y1.val / 3) + y1.val % 3, by omega⟩ : Fin 111) = y1 := Fin.ext (Nat.div_add_mod _ _)
  simp only [hq] at e
  generalize out0_4 (iblk m c 0 t) (iblk m c 1 t) (iblk m c 2 t) (iblk m c 3 t) = X at e ⊢
  refine Eq.trans (b := X (ix2 y0 y1)) ?_ (e.trans ?_)
  · rfl
  · unfold rows
    blk_simp [index4 t]

end Cert.KernelIdeal.Lane
-- ==== Proof.Result.lean ====
/- The array the kernel's program returns: the atoms' coordinates, an axis for each of batch, residue, atom and coordinate. -/
module

public import proofs.«01_k».proof.Proof.Array

@[expose] public section

namespace Cert.KernelIdeal.Lane
open Idealize.ShloMosaic Idealize.ShloMosaic.TcCoe Cert.KernelIdeal.Gen Cert.Rigid
open Idealize.ShloMosaic (Ideal)
set_option maxRecDepth 16384

variable (m : (ℓ : Loc nD τ sig) → Buf (Elt Ideal) ℓ) (c : Dev nD)

/-- The atoms' coordinates by batch, residue, atom and coordinate. -/
noncomputable def atoms : Shape.Idx ⟨4, ![16, 4096, 37, 3]⟩ → EReal := fun y => atomOf m c (y 0) (y 1) (y 2) (y 3)

/-- The rows, cut into the four axes, are the atoms' coordinates. -/
theorem cast_rows (h : Shape.ShapeCasts ⟨2, ![65536, 111]⟩ ⟨4, ![16, 4096, 37, 3]⟩) :
    shapeCast ⟨4, ![16, 4096, 37, 3]⟩ (rows m c) h = atoms m c := by
  funext y
  idx_vars y
  have h₀ : rows m c (ix2 ⟨y0.val * 4096 + y1.val, by omega⟩ ⟨y2.val * 3 + y3.val, by omega⟩) = atomOf m c y0 y1 y2 y3 := by
    unfold rows
    congr 1 <;> apply Fin.ext <;> simp <;> omega
  refine Eq.trans ?_ h₀
  generalize rows m c = R
  pointwise

/-- The program's result is the array the kernel writes, cut into the four axes. -/
theorem tail (X : Shape.Idx ⟨2, ![65536, 111]⟩ → EReal) (hX : (dats m 0 c).arrAt 4 cfg0.N = X) :
    Pipeline.afterTail₀ cfgs (dats m) 0 (V0 m) [hostOps1] c main_v46
      = shapeCast ⟨4, ![16, 4096, 37, 3]⟩ X shapeCasts_S65536x111_S16x4096x37x3 := by
  unfold Pipeline.afterTail₀
  simp only [hostOps1, List.flatten_cons, List.flatten_nil, List.append_nil, StableHlo.after_cons, StableHlo.after_nil]
  rw [StableHlo.reshape_result', ← hX]
  exact congrArg (fun Y => shapeCast ⟨4, ![16, 4096, 37, 3]⟩ Y shapeCasts_S65536x111_S16x4096x37x3)
    (Pipeline.withArrays_arr spec0 winFacts0.arr_inj c _ _ 4)

/-- At arguments as drawn the program's result is the atoms' coordinates. -/
theorem result (hD : Good m c) :
    Pipeline.afterTail₀ cfgs (dats m) 0 (V0 m) [hostOps1] c main_v46 = atoms m c :=
  (tail m c _ (array hD)).trans (cast_rows m c _)

end Cert.KernelIdeal.Lane
-- ==== Proof.Drawn.lean ====
/- What the precondition says of the five arguments. -/
module

public import proofs.«01_k».proof.Proof.Model
public import proofs.«01_k».proof.Pre_drawn
public import Idealize.ShloMosaic.Lib.ReduceAll
public import Idealize.ShloMosaic.Lib.Affine

@[expose] public section

namespace Cert.Pre_drawn
open Idealize.ShloMosaic Cert.Rigid
open Idealize.ShloMosaic (Ideal)

variable [Facts]

/-- A word that reads at least 0 and less than `n` as a signed number is less than `n` as an unsigned one. -/
theorem lt_of_range (n : Nat) (hn : n < 2 ^ 31) {w : BitVec 32}
    (h : IntOp.andi (IntOp.cmpi .sge w 0#32) (IntOp.cmpi .slt w (BitVec.ofNat 32 n)) = 1#1) : w.toNat < n := by
  obtain ⟨h₁, h₂⟩ := IntOp.andi_eq_one.1 h
  have h₁ := IntOp.cmpi_sge.1 h₁
  have h₂ := IntOp.cmpi_slt.1 h₂
  rw [BitVec.toInt_ofNat'] at h₂
  rw [show (0#32 : BitVec 32).toInt = 0 from rfl] at h₁
  rw [BitVec.toInt_eq_toNat_bmod] at h₁ h₂
  simp only [Int.bmod_def] at h₁ h₂
  omega

/-- A number is finite if the comparison the precondition makes holds of it. -/
theorem finite_of_self {x : EReal} (h : BitVec.ofBool (decide (x - x = 0)) = 1#1) : Finite x := by
  by_cases hx : x - x = 0
  · exact Finite.of_sub_self hx
  · simp [hx] at h

/-- Where the precondition holds, kinds and groups are in range and the numbers in use finite. -/
theorem drawn {a0 : IVec S16x4096 32} {a1 : FVec Ideal S16x4096x7x2 .f32} {a2 : FVec Ideal S21x8x4x4 .f32} {a3 : IVec S21x37 32}
    {a4 : FVec Ideal S21x37x3 .f32} (h : fn (F := Ideal) a0 a1 a2 a3 a4 = fun _ => 1#1) : Drawn a0 a1 a2 a3 a4 := by
  have h := congrFun h ix0
  simp only [fn, fn_part1] at h
  obtain ⟨h, h4⟩ := IntOp.andi_eq_one.1 h
  obtain ⟨h, h2⟩ := IntOp.andi_eq_one.1 h
  obtain ⟨h, h1⟩ := IntOp.andi_eq_one.1 h
  obtain ⟨h0, h3⟩ := IntOp.andi_eq_one.1 h
  have h0 := Host.reduce_andi_all _ _ _ _ _ h0
  have h1 := Host.reduce_andi_all _ _ _ _ _ h1
  have h2 := Host.reduce_andi_all _ _ _ _ _ h2
  have h3 := Host.reduce_andi_all _ _ _ _ _ h3
  have h4 := Host.reduce_andi_all _ _ _ _ _ h4
  refine ⟨fun b l => ?_, fun k a => ?_, fun b l g x => ?_, fun k g j i => ?_, fun k a j => ?_⟩
  · have := h0 (ix2 b l)
    pointwise at this
    exact lt_of_range 21 (by omega) this
  · have := h3 (ix2 k a)
    pointwise at this
    exact lt_of_range 8 (by omega) this
  · have := h1 (ix4 b l g x)
    pointwise at this
    exact finite_of_self this
  · have := h2 (ix4 k g j i)
    pointwise at this
    exact finite_of_self this
  · have := h4 (ix3 k a j)
    pointwise at this
    exact finite_of_self this

end Cert.Pre_drawn
-- ==== Proof.Gather.lean ====
/- What the reference's gathers read: the tables' rows at a residue's kind, and the frames at an atom's group. -/
module

public import proofs.«01_k».proof.Proof.Model
public import proofs.«01_k».proof.Proof.Gen.ReferenceIdeal.Read
public import Idealize.ShloMosaic.Lib.ReduceAll
public import Idealize.ShloMosaic.Lib.WordCmp
public import Idealize.ShloMosaic.Lib.Pointwise

@[expose] public section

namespace Cert.ReferenceIdeal.Read
open Idealize.ShloMosaic Cert.Rigid
open Idealize.ShloMosaic (Ideal)

section
variable {s si t : Shape} {α : Type}

/-- A gather reads its operand at `i` if on each axis its start, batching and offset coordinates add up to `i`'s. -/
theorem gather_at (d : GatherDims s si t) (x : s.Idx → α) (words : IVec si 32) (j : t.Idx) (i : s.Idx)
    (h : ∀ a, d.start j words a + d.batchCoord j a + d.offCoord j a = (i a).val) : Host.gather d x words j = x i :=
  congrArg x (funext fun a => Fin.ext (h a))

/-- The start of a gather on an indexed axis is the number its index word spells, if a slice from there on lies inside. -/
theorem start_word (d : GatherDims s si t) (words : IVec si 32) (j : t.Idx) (a : Fin s.rank) (ha : a ∈ d.startIndexMap)
    (q : si.Idx) (hq : d.siIdx j ⟨d.startIndexMap.idxOf a, List.idxOf_lt_length_iff.2 ha⟩ = q) (k : ℕ)
    (hk : words q = BitVec.ofNat 32 k) (hk' : k ≤ s.size a - d.sliceSizes a) (hs : k < 2 ^ 31) :
    d.start j words a = k := by
  unfold GatherDims.start
  rw [dif_pos ha, hq, hk, WordCmp.toInt_ofNat_of_lt hs, Int.toNat_natCast]
  omega

end

/-- Adding a table's length to a negative index leaves a small number's word as it is. -/
theorem wrapped (k : ℕ) (hk : k < 2 ^ 31) (w : BitVec 32) :
    Scalar.select (IntOp.cmpi .slt (BitVec.ofNat 32 k) 0#32) w (BitVec.ofNat 32 k) = BitVec.ofNat 32 k := by
  rw [WordCmp.cmpi_slt_zero, WordCmp.select_decide, if_neg]
  rw [BitVec.toNat_ofNat]
  omega

/-- A number below eight passes the test that it lies between zero and seven. -/
theorem in_range (k : Fin 8) :
    IntOp.andi (IntOp.cmpi .sge (BitVec.ofNat 32 k.val) 0#32) (IntOp.cmpi .sle (BitVec.ofNat 32 k.val) 7#32) = 1#1 := by
  revert k; decide +kernel

/-- A choice whose condition holds is its first number. -/
theorem chosen (x y : EReal) : Scalar.select 1#1 x y = x := rfl

variable [Facts] {kinds : Shape.Idx ⟨2, ![16, 4096]⟩ → BitVec 32} {torsions : Shape.Idx ⟨4, ![16, 4096, 7, 2]⟩ → EReal}
  {frames : Shape.Idx ⟨4, ![21, 8, 4, 4]⟩ → EReal} {groups : Shape.Idx ⟨2, ![21, 37]⟩ → BitVec 32}
  {places : Shape.Idx ⟨3, ![21, 37, 3]⟩ → EReal} (h : Drawn kinds torsions frames groups places)
include h

/-- The index word of the frames' gather is the residue's kind. -/
theorem kind_frames (b : Fin 16) (l : Fin 4096) :
    val_main_v5 (F := Ideal) kinds (ix3 b l 0) = BitVec.ofNat 32 (kind kinds b l).val := by
  have e := h.kind_word b l
  have w := wrapped (kind kinds b l).val (by omega)
  generalize (kind kinds b l).val = k at e w ⊢
  pointwise [val_main_v5, val_main_v4, val_main_v3, val_main_v2, val_main_v1, val_main_v0, val_main_c, val_main_c_0, e, w]

/-- The frames gathered for a residue are its kind's. -/
theorem frames_apply (b : Fin 16) (l : Fin 4096) (g : Fin 8) (j i : Fin 4) :
    val_main_v6 (F := Ideal) kinds frames (ix5 b l g j i) = frames (ix4 (kind kinds b l) g j i) := by
  unfold val_main_v6
  refine gather_at _ _ _ _ _ fun a => ?_
  match a with
  | ⟨0, _⟩ =>
    rw [start_word _ _ _ _ (List.mem_singleton.2 rfl) (ix3 b l 0) (by funext b; match b with | 0 => rfl | 1 => rfl | 2 => rfl)
      _ (kind_frames h b l) (by show _ ≤ 20; omega) (by omega)]
    rfl
  | ⟨1, _⟩ => exact Nat.zero_add _
  | ⟨2, _⟩ => exact Nat.zero_add _
  | ⟨3, _⟩ => exact Nat.zero_add _

/-- The index word of the groups' gather is the residue's kind. -/
theorem kind_groups (b : Fin 16) (l : Fin 4096) :
    val_main_v76 (F := Ideal) kinds (ix3 b l 0) = BitVec.ofNat 32 (kind kinds b l).val := by
  have e := h.kind_word b l
  have w := wrapped (kind kinds b l).val (by omega)
  generalize (kind kinds b l).val = k at e w ⊢
  pointwise [val_main_v76, val_main_v75, val_main_v74, val_main_v73, val_main_v72, val_main_v71, val_main_c_5, val_main_c_6, e, w]

/-- The groups gathered for a residue are its kind's, as words. -/
theorem groups_apply (b : Fin 16) (l : Fin 4096) (a : Fin 37) :
    val_main_v77 (F := Ideal) kinds groups (ix3 b l a) = BitVec.ofNat 32 (group groups (kind kinds b l) a).val := by
  rw [← h.group_word]
  unfold val_main_v77
  refine gather_at _ _ _ _ _ fun e => ?_
  match e with
  | ⟨0, _⟩ =>
    rw [start_word _ _ _ _ (List.mem_singleton.2 rfl) (ix3 b l 0) (by funext b; match b with | 0 => rfl | 1 => rfl | 2 => rfl)
      _ (kind_groups h b l) (by show _ ≤ 20; omega) (by omega)]
    rfl
  | ⟨1, _⟩ => exact Nat.zero_add _

/-- The index word of the places' gather is the residue's kind. -/
theorem kind_places (b : Fin 16) (l : Fin 4096) :
    val_main_v83 (F := Ideal) kinds (ix3 b l 0) = BitVec.ofNat 32 (kind kinds b l).val := by
  have e := h.kind_word b l
  have w := wrapped (kind kinds b l).val (by omega)
  generalize (kind kinds b l).val = k at e w ⊢
  pointwise [val_main_v83, val_main_v82, val_main_v81, val_main_v80, val_main_v79, val_main_v78, val_main_c_7, val_main_c_8, e, w]

/-- The places gathered for a residue are its kind's. -/
theorem places_apply (b : Fin 16) (l : Fin 4096) (a : Fin 37) (j : Fin 3) :
    val_main_v84 (F := Ideal) kinds places (ix4 b l a j) = places (ix3 (kind kinds b l) a j) := by
  unfold val_main_v84
  refine gather_at _ _ _ _ _ fun e => ?_
  match e with
  | ⟨0, _⟩ =>
    rw [start_word _ _ _ _ (List.mem_singleton.2 rfl) (ix3 b l 0) (by funext b; match b with | 0 => rfl | 1 => rfl | 2 => rfl)
      _ (kind_places h b l) (by show _ ≤ 20; omega) (by omega)]
    rfl
  | ⟨1, _⟩ => exact Nat.zero_add _
  | ⟨2, _⟩ => exact Nat.zero_add _

/-- The index word of the rotations' gather is the atom's group. -/
theorem group_rot (b : Fin 16) (l : Fin 4096) (a : Fin 37) (j i : Fin 3) :
    val_main_call0_v4 (F := Ideal) kinds groups (ix5 b l a j i) = BitVec.ofNat 32 (group groups (kind kinds b l) a).val := by
  have e := groups_apply h b l a
  have w := wrapped (group groups (kind kinds b l) a).val (by omega)
  generalize (group groups (kind kinds b l) a).val = k at e w ⊢
  generalize hv : val_main_v77 (F := Ideal) kinds groups = v at e
  pointwise [val_main_call0_v4, val_main_call0_v3, val_main_call0_v2, val_main_call0_v1, val_main_call0_v0, val_main_call0_c, val_main_call0_c_0, val_main_v86, val_main_v85, hv, e, w]

/-- The same word, with the index vector's axis added. -/
theorem group_rot' (b : Fin 16) (l : Fin 4096) (a : Fin 37) (j i : Fin 3) :
    val_main_call0_v5 (F := Ideal) kinds groups (ix6 b l a j i 0) = BitVec.ofNat 32 (group groups (kind kinds b l) a).val := by
  rw [← group_rot h b l a j i]
  pointwise [val_main_call0_v5]

/-- Every index of the rotations' gather is in range. -/
theorem mask_rot (i : S16x4096x37x3x3.Idx) : val_main_call0_v12 (F := Ideal) kinds groups i = 1#1 := by
  refine Host.reduce_andi_one _ _ _ _ _ rfl fun y => ?_
  idx_vars y
  obtain rfl : y5 = 0 := Subsingleton.elim _ _
  have e := group_rot' h y0 y1 y2 y3 y4
  have w := in_range (group groups (kind kinds y0 y1) y2)
  generalize (group groups (kind kinds y0 y1) y2).val = k at e w ⊢
  generalize hv : val_main_call0_v5 (F := Ideal) kinds groups = v at e
  pointwise [val_main_call0_v11, val_main_call0_v10, val_main_call0_v9, val_main_call0_v8, val_main_call0_v7, val_main_call0_v6,
    val_main_call0_c_1, val_main_call0_c_2, hv, e, w]

/-- The rotations gathered for the atoms are those of their groups. -/
theorem picked_rot (b : Fin 16) (l : Fin 4096) (a : Fin 37) (j i : Fin 3) :
    val_main_v87 (F := Ideal) kinds torsions frames groups (ix5 b l a j i)
      = val_main_v65 (F := Ideal) kinds torsions frames (ix5 b l (group groups (kind kinds b l) a) j i) := by
  rw [val_main_v87_apply, mask_rot h, chosen]
  unfold val_main_call0_v13
  refine gather_at _ _ _ _ _ fun e => ?_
  match e with
  | ⟨0, _⟩ => exact (Nat.add_zero _).trans (Nat.zero_add _)
  | ⟨1, _⟩ => exact (Nat.add_zero _).trans (Nat.zero_add _)
  | ⟨2, _⟩ =>
    rw [start_word _ _ _ _ (List.mem_singleton.2 rfl) (ix6 b l a j i 0)
      (by funext e; match e with | 0 => rfl | 1 => rfl | 2 => rfl | 3 => rfl | 4 => rfl | 5 => rfl)
      _ (group_rot' h b l a j i) (by show _ ≤ 7; omega) (by omega)]
    rfl
  | ⟨3, _⟩ => exact (Nat.add_zero _).trans (Nat.zero_add _)
  | ⟨4, _⟩ => exact (Nat.add_zero _).trans (Nat.zero_add _)

/-- The index word of the origins' gather is the atom's group. -/
theorem group_origin (b : Fin 16) (l : Fin 4096) (a : Fin 37) (i : Fin 3) :
    val_main_call1_v5 (F := Ideal) kinds groups (ix5 b l a i 0) = BitVec.ofNat 32 (group groups (kind kinds b l) a).val := by
  have e := groups_apply h b l a
  have w := wrapped (group groups (kind kinds b l) a).val (by omega)
  generalize (group groups (kind kinds b l) a).val = k at e w ⊢
  generalize hv : val_main_v77 (F := Ideal) kinds groups = v at e
  pointwise [val_main_call1_v5, val_main_call1_v4, val_main_call1_v3, val_main_call1_v2, val_main_call1_v1, val_main_call1_v0,
    val_main_call1_c, val_main_call1_c_0, val_main_v89, val_main_v88, hv, e, w]

/-- Every index of the origins' gather is in range. -/
theorem mask_origin (i : S16x4096x37x3.Idx) : val_main_call1_v12 (F := Ideal) kinds groups i = 1#1 := by
  refine Host.reduce_andi_one _ _ _ _ _ rfl fun y => ?_
  idx_vars y
  obtain rfl : y4 = 0 := Subsingleton.elim _ _
  have e := group_origin h y0 y1 y2 y3
  have w := in_range (group groups (kind kinds y0 y1) y2)
  generalize (group groups (kind kinds y0 y1) y2).val = k at e w ⊢
  generalize hv : val_main_call1_v5 (F := Ideal) kinds groups = v at e
  pointwise [val_main_call1_v11, val_main_call1_v10, val_main_call1_v9, val_main_call1_v8, val_main_call1_v7, val_main_call1_v6,
    val_main_call1_c_1, val_main_call1_c_2, hv, e, w]

/-- The origins gathered for the atoms are those of their groups. -/
theorem picked_origin (b : Fin 16) (l : Fin 4096) (a : Fin 37) (i : Fin 3) :
    val_main_v90 (F := Ideal) kinds torsions frames groups (ix4 b l a i)
      = val_main_v70 (F := Ideal) kinds torsions frames (ix4 b l (group groups (kind kinds b l) a) i) := by
  rw [val_main_v90_apply, mask_origin h, chosen]
  unfold val_main_call1_v13
  refine gather_at _ _ _ _ _ fun e => ?_
  match e with
  | ⟨0, _⟩ => exact (Nat.add_zero _).trans (Nat.zero_add _)
  | ⟨1, _⟩ => exact (Nat.add_zero _).trans (Nat.zero_add _)
  | ⟨2, _⟩ =>
    rw [start_word _ _ _ _ (List.mem_singleton.2 rfl) (ix5 b l a i 0)
      (by funext e; match e with | 0 => rfl | 1 => rfl | 2 => rfl | 3 => rfl | 4 => rfl)
      _ (group_origin h b l a i) (by show _ ≤ 7; omega) (by omega)]
    rfl
  | ⟨3, _⟩ => exact (Nat.add_zero _).trans (Nat.zero_add _)

end Cert.ReferenceIdeal.Read
-- ==== Proof.Reference.lean ====
/- The reference, one stage after another: the turned frames, the frames that hang off the one before, the atoms. -/
module

public import proofs.«01_k».proof.Proof.Gather

@[expose] public section

namespace Cert.ReferenceIdeal.Read
open Idealize.ShloMosaic Cert.Rigid
open Idealize.ShloMosaic (Ideal)

/-- Row `j` of a frame's rotation times column `i` of a turn is the turned frame's entry. -/
theorem turn_columns (F : Fin 8 → Fin 3 → Fin 3 → EReal) (s c : Fin 8 → EReal) (g : Fin 8) (j i : Fin 3) :
    F g j 0 * ![1, 0, 0, 0, c g, -s g, 0, s g, c g] (⟨(0 : Fin 3).val * 3 + i.val, by simp; omega⟩ : Fin 9)
      + F g j 1 * ![1, 0, 0, 0, c g, -s g, 0, s g, c g] (⟨(1 : Fin 3).val * 3 + i.val, by simp; omega⟩ : Fin 9)
      + F g j 2 * ![1, 0, 0, 0, c g, -s g, 0, s g, c g] (⟨(2 : Fin 3).val * 3 + i.val, by simp; omega⟩ : Fin 9)
    = turned F s c g j i := by
  unfold turned
  match i with
  | 0 =>
    show F g j 0 * 1 + F g j 1 * 0 + F g j 2 * 0 = _
    simp
  | 1 =>
    show F g j 0 * 0 + F g j 1 * c g + F g j 2 * s g = _
    simp [mul_comm]
  | 2 =>
    show F g j 0 * 0 + F g j 1 * -s g + F g j 2 * c g = _
    simp [mul_comm, add_comm, sub_eq_add_neg]

variable [Facts]

section
variable (torsions : Shape.Idx ⟨4, ![16, 4096, 7, 2]⟩ → EReal) (b : Fin 16) (l : Fin 4096) (g : Fin 8)

/-- The sines the frames are turned by. -/
theorem sine_apply : val_main_v14 (F := Ideal) torsions (ix3 b l g) = sine torsions b l g := by
  unfold sine
  pointwise [val_main_v14, val_main_v13, val_main_v12, val_main_v10, val_main_cst]

/-- The cosines the frames are turned by. -/
theorem cosine_apply : val_main_v17 (F := Ideal) torsions (ix3 b l g) = cosine torsions b l g := by
  unfold cosine
  pointwise [val_main_v17, val_main_v16, val_main_v15, val_main_v11, val_main_cst_1]

/-- The matrix of a turn about the first axis, row after row: its nine entries as the reference lines them up. -/
noncomputable def entries : Fin 9 → Shape.Idx ⟨4, ![16, 4096, 8, 1]⟩ → EReal :=
  ![val_main_v21 (F := Ideal), val_main_v22 (F := Ideal), val_main_v23 (F := Ideal),
    val_main_v24 (F := Ideal), val_main_v25 (F := Ideal) torsions, val_main_v26 (F := Ideal) torsions,
    val_main_v27 (F := Ideal), val_main_v28 (F := Ideal) torsions, val_main_v29 (F := Ideal) torsions]

/-- The entries lined up. -/
theorem line_apply (p : Fin 9) : val_main_v30 (F := Ideal) torsions (ix4 b l g p) = entries torsions p (ix4 b l g 0) := by
  unfold val_main_v30
  refine concatenate_apply_piece (t := S16x4096x8x9) 3 _ _ _ p.val ?_ S16x4096x8x1 _ ?_ rfl p.val ?_ (ix4 b l g 0) ?_ ?_
  · exact p.isLt
  · fin_cases p <;> rfl
  · fin_cases p <;> rfl
  · intro e he; fin_cases e <;> simp_all
  · simp

/-- Row `j`, column `i` of the turn. -/
theorem turn_apply (j i : Fin 3) :
    val_main_v31 (F := Ideal) torsions (ix5 b l g j i) = entries torsions ⟨j.val * 3 + i.val, by omega⟩ (ix4 b l g 0) := by
  rw [← line_apply]
  pointwise [val_main_v31]

/-- The numbers of the turn: one on the axis, the cosine and the sine off it. -/
theorem entries_apply : (fun p => entries torsions p (ix4 b l g 0))
    = ![1, 0, 0, 0, cosine torsions b l g, -sine torsions b l g, 0, sine torsions b l g, cosine torsions b l g] := by
  have hs := sine_apply torsions b l g
  have hc := cosine_apply torsions b l g
  generalize sine torsions b l g = s at hs ⊢
  generalize cosine torsions b l g = c at hc ⊢
  have h₁ : val_main_v21 (F := Ideal) (ix4 b l g 0) = (1 : EReal) := by pointwise [val_main_v21, val_main_v19, val_main_cst_3]
  have h₀ : val_main_v22 (F := Ideal) (ix4 b l g 0) = (0 : EReal) := by pointwise [val_main_v22, val_main_v18, val_main_cst_2]
  have h₄ : val_main_v25 (F := Ideal) torsions (ix4 b l g 0) = c := by
    rw [← hc]; pointwise [val_main_v25]
  have h₇ : val_main_v28 (F := Ideal) torsions (ix4 b l g 0) = s := by
    rw [← hs]; pointwise [val_main_v28]
  have h₅ : val_main_v26 (F := Ideal) torsions (ix4 b l g 0) = -s := by
    rw [← hs]; pointwise [val_main_v26, val_main_v20]
  funext p
  fin_cases p
  · exact h₁
  · exact h₀
  · exact h₀
  · exact h₀
  · exact h₄
  · exact h₅
  · exact h₀
  · exact h₇
  · exact h₄

/-- The numbers of the turn by row and column. -/
theorem turn_entry (j i : Fin 3) : val_main_v31 (F := Ideal) torsions (ix5 b l g j i)
    = ![1, 0, 0, 0, cosine torsions b l g, -sine torsions b l g, 0, sine torsions b l g, cosine torsions b l g]
        (⟨j.val * 3 + i.val, by omega⟩ : Fin 9) :=
  (turn_apply torsions b l g j i).trans (congrFun (entries_apply torsions b l g) _)
end

section
variable {kinds : Shape.Idx ⟨2, ![16, 4096]⟩ → BitVec 32} {torsions : Shape.Idx ⟨4, ![16, 4096, 7, 2]⟩ → EReal}
  {frames : Shape.Idx ⟨4, ![21, 8, 4, 4]⟩ → EReal} {groups : Shape.Idx ⟨2, ![21, 37]⟩ → BitVec 32}
  {places : Shape.Idx ⟨3, ![21, 37, 3]⟩ → EReal} (h : Drawn kinds torsions frames groups places)
  (b : Fin 16) (l : Fin 4096)
include h

/-- The rotation parts of a residue's default frames. -/
theorem rot_apply (g : Fin 8) (j i : Fin 3) :
    val_main_v7 (F := Ideal) kinds frames (ix5 b l g j i) = frameRot frames (kind kinds b l) g j i := by
  unfold frameRot
  rw [← frames_apply h]
  pointwise [val_main_v7]

/-- The origins of a residue's default frames. -/
theorem origin_apply (g : Fin 8) (i : Fin 3) :
    val_main_v9 (F := Ideal) kinds frames (ix4 b l g i) = frameOrigin frames (kind kinds b l) g i := by
  unfold frameOrigin
  rw [← frames_apply h]
  pointwise [val_main_v9, val_main_v8]

/-- The turned frames' rotations. -/
theorem turned_apply (g : Fin 8) (j i : Fin 3) :
    val_main_v33 (F := Ideal) kinds torsions frames (ix5 b l g j i)
      = turned (frameRot frames (kind kinds b l)) (sine torsions b l) (cosine torsions b l) g j i := by
  have e : val_main_v33 (F := Ideal) kinds torsions frames (ix5 b l g j i)
      = ∑ k : Fin 3, val_main_v7 (F := Ideal) kinds frames (ix5 b l g j k) * val_main_v31 (F := Ideal) torsions (ix5 b l g k i) := by
    pointwise [val_main_v33]
  rw [e, Fin.sum_univ_three]
  simp only [rot_apply h, turn_entry]
  exact turn_columns _ _ _ _ _ _

/-- The turned frames' origins are the default ones: a turn about the origin leaves it. -/
theorem kept_apply (g : Fin 8) (i : Fin 3) :
    val_main_v35 (F := Ideal) kinds frames (ix4 b l g i) = frameOrigin frames (kind kinds b l) g i := by
  have e : val_main_v35 (F := Ideal) kinds frames (ix4 b l g i)
      = (∑ k : Fin 3, val_main_v7 (F := Ideal) kinds frames (ix5 b l g i k) * 0) + val_main_v9 (F := Ideal) kinds frames (ix4 b l g i) := by
    pointwise [val_main_v35, val_main_v34, val_main_v32, val_main_cst_4]
  rw [e, origin_apply h]
  simp

/-- Frame five's rotation: frame four's times its own turned one. -/
theorem rot_five (j i : Fin 3) : val_main_v44 (F := Ideal) kinds torsions frames (ix4 b l j i)
    = rot (frameRot frames (kind kinds b l)) (sine torsions b l) (cosine torsions b l) 5 j i := by
  have e : val_main_v44 (F := Ideal) kinds torsions frames (ix4 b l j i)
      = ∑ k : Fin 3, val_main_v33 (F := Ideal) kinds torsions frames (ix5 b l 4 j k)
          * val_main_v33 (F := Ideal) kinds torsions frames (ix5 b l 5 k i) := by
    pointwise [val_main_v44, val_main_v37, val_main_v36, val_main_v41, val_main_v40]
  rw [e, Fin.sum_univ_three]
  simp only [turned_apply h]
  rfl

/-- Frame six's rotation: frame five's times its own turned one. -/
theorem rot_six (j i : Fin 3) : val_main_v51 (F := Ideal) kinds torsions frames (ix4 b l j i)
    = rot (frameRot frames (kind kinds b l)) (sine torsions b l) (cosine torsions b l) 6 j i := by
  have e : val_main_v51 (F := Ideal) kinds torsions frames (ix4 b l j i)
      = ∑ k : Fin 3, val_main_v44 (F := Ideal) kinds torsions frames (ix4 b l j k)
          * val_main_v33 (F := Ideal) kinds torsions frames (ix5 b l 6 k i) := by
    pointwise [val_main_v51, val_main_v48, val_main_v47]
  rw [e, Fin.sum_univ_three]
  simp only [turned_apply h, rot_five h]
  rfl

/-- Frame seven's rotation: frame six's times its own turned one. -/
theorem rot_seven (j i : Fin 3) : val_main_v58 (F := Ideal) kinds torsions frames (ix4 b l j i)
    = rot (frameRot frames (kind kinds b l)) (sine torsions b l) (cosine torsions b l) 7 j i := by
  have e : val_main_v58 (F := Ideal) kinds torsions frames (ix4 b l j i)
      = ∑ k : Fin 3, val_main_v51 (F := Ideal) kinds torsions frames (ix4 b l j k)
          * val_main_v33 (F := Ideal) kinds torsions frames (ix5 b l 7 k i) := by
    pointwise [val_main_v58, val_main_v55, val_main_v54]
  rw [e, Fin.sum_univ_three]
  simp only [turned_apply h, rot_six h]
  rfl

/-- All eight frames' rotations. -/
theorem rots_apply (g : Fin 8) (j i : Fin 3) : val_main_v65 (F := Ideal) kinds torsions frames (ix5 b l g j i)
    = rot (frameRot frames (kind kinds b l)) (sine torsions b l) (cosine torsions b l) g j i := by
  by_cases hg : g.val < 5
  · have e : val_main_v65 (F := Ideal) kinds torsions frames (ix5 b l g j i)
        = val_main_v33 (F := Ideal) kinds torsions frames (ix5 b l g j i) := by
      unfold val_main_v65
      refine (concatenate_apply_piece (t := S16x4096x8x3x3) 2 _ _ _ 0 (by simp) S16x4096x5x3x3 _ rfl rfl 0 rfl (ix5 b l ⟨g.val, hg⟩ j i) ?_ ?_).trans ?_
      · intro e he; fin_cases e <;> simp_all
      · simp
      · pointwise [val_main_v61]
    rw [e, turned_apply h]
    unfold rot
    split <;> first | (exfalso; revert hg; decide) | rfl
  · rcases (by omega : g = 5 ∨ g = 6 ∨ g = 7) with rfl | rfl | rfl
    · rw [← rot_five h]
      unfold val_main_v65
      refine (concatenate_apply_piece (t := S16x4096x8x3x3) 2 _ _ _ 1 (by simp) S16x4096x1x3x3 _ rfl rfl 5 rfl (ix5 b l 0 j i) ?_ ?_).trans ?_
      · intro e he; fin_cases e <;> simp_all
      · simp
      · pointwise [val_main_v62]
    · rw [← rot_six h]
      unfold val_main_v65
      refine (concatenate_apply_piece (t := S16x4096x8x3x3) 2 _ _ _ 2 (by simp) S16x4096x1x3x3 _ rfl rfl 6 rfl (ix5 b l 0 j i) ?_ ?_).trans ?_
      · intro e he; fin_cases e <;> simp_all
      · simp
      · pointwise [val_main_v63]
    · rw [← rot_seven h]
      unfold val_main_v65
      refine (concatenate_apply_piece (t := S16x4096x8x3x3) 2 _ _ _ 3 (by simp) S16x4096x1x3x3 _ rfl rfl 7 rfl (ix5 b l 0 j i) ?_ ?_).trans ?_
      · intro e he; fin_cases e <;> simp_all
      · simp
      · pointwise [val_main_v64]

/-- Frame five's origin: its own default one, moved by frame four. -/
theorem origin_five (i : Fin 3) : val_main_v46 (F := Ideal) kinds torsions frames (ix3 b l i)
    = origin (frameRot frames (kind kinds b l)) (frameOrigin frames (kind kinds b l)) (sine torsions b l) (cosine torsions b l) 5 i := by
  have e : val_main_v46 (F := Ideal) kinds torsions frames (ix3 b l i)
      = (∑ k : Fin 3, val_main_v33 (F := Ideal) kinds torsions frames (ix5 b l 4 i k)
          * val_main_v35 (F := Ideal) kinds frames (ix4 b l 5 k)) + val_main_v35 (F := Ideal) kinds frames (ix4 b l 4 i) := by
    pointwise [val_main_v46, val_main_v45, val_main_v37, val_main_v36, val_main_v39, val_main_v38, val_main_v43, val_main_v42]
  rw [e, Fin.sum_univ_three]
  simp only [turned_apply h, kept_apply h]
  rfl

/-- Frame six's origin: its own default one, moved by frame five. -/
theorem origin_six (i : Fin 3) : val_main_v53 (F := Ideal) kinds torsions frames (ix3 b l i)
    = origin (frameRot frames (kind kinds b l)) (frameOrigin frames (kind kinds b l)) (sine torsions b l) (cosine torsions b l) 6 i := by
  have e : val_main_v53 (F := Ideal) kinds torsions frames (ix3 b l i)
      = (∑ k : Fin 3, val_main_v44 (F := Ideal) kinds torsions frames (ix4 b l i k)
          * val_main_v35 (F := Ideal) kinds frames (ix4 b l 6 k)) + val_main_v46 (F := Ideal) kinds torsions frames (ix3 b l i) := by
    pointwise [val_main_v53, val_main_v52, val_main_v50, val_main_v49]
  rw [e, Fin.sum_univ_three]
  simp only [rot_five h, kept_apply h, origin_five h]
  rfl

/-- Frame seven's origin: its own default one, moved by frame six. -/
theorem origin_seven (i : Fin 3) : val_main_v60 (F := Ideal) kinds torsions frames (ix3 b l i)
    = origin (frameRot frames (kind kinds b l)) (frameOrigin frames (kind kinds b l)) (sine torsions b l) (cosine torsions b l) 7 i := by
  have e : val_main_v60 (F := Ideal) kinds torsions frames (ix3 b l i)
      = (∑ k : Fin 3, val_main_v51 (F := Ideal) kinds torsions frames (ix4 b l i k)
          * val_main_v35 (F := Ideal) kinds frames (ix4 b l 7 k)) + val_main_v53 (F := Ideal) kinds torsions frames (ix3 b l i) := by
    pointwise [val_main_v60, val_main_v59, val_main_v57, val_main_v56]
  rw [e, Fin.sum_univ_three]
  simp only [rot_six h, kept_apply h, origin_six h]
  rfl

/-- All eight frames' origins. -/
theorem origins_apply (g : Fin 8) (i : Fin 3) : val_main_v70 (F := Ideal) kinds torsions frames (ix4 b l g i)
    = origin (frameRot frames (kind kinds b l)) (frameOrigin frames (kind kinds b l)) (sine torsions b l) (cosine torsions b l) g i := by
  by_cases hg : g.val < 5
  · have e : val_main_v70 (F := Ideal) kinds torsions frames (ix4 b l g i)
        = val_main_v35 (F := Ideal) kinds frames (ix4 b l g i) := by
      unfold val_main_v70
      refine (concatenate_apply_piece (t := S16x4096x8x3) 2 _ _ _ 0 (by simp) S16x4096x5x3 _ rfl rfl 0 rfl (ix4 b l ⟨g.val, hg⟩ i) ?_ ?_).trans ?_
      · intro e he; fin_cases e <;> simp_all
      · simp
      · pointwise [val_main_v66]
    rw [e, kept_apply h]
    unfold origin
    split <;> first | (exfalso; revert hg; decide) | rfl
  · rcases (by omega : g = 5 ∨ g = 6 ∨ g = 7) with rfl | rfl | rfl
    · rw [← origin_five h]
      unfold val_main_v70
      refine (concatenate_apply_piece (t := S16x4096x8x3) 2 _ _ _ 1 (by simp) S16x4096x1x3 _ rfl rfl 5 rfl (ix4 b l 0 i) ?_ ?_).trans ?_
      · intro e he; fin_cases e <;> simp_all
      · simp
      · pointwise [val_main_v67]
    · rw [← origin_six h]
      unfold val_main_v70
      refine (concatenate_apply_piece (t := S16x4096x8x3) 2 _ _ _ 2 (by simp) S16x4096x1x3 _ rfl rfl 6 rfl (ix4 b l 0 i) ?_ ?_).trans ?_
      · intro e he; fin_cases e <;> simp_all
      · simp
      · pointwise [val_main_v68]
    · rw [← origin_seven h]
      unfold val_main_v70
      refine (concatenate_apply_piece (t := S16x4096x8x3) 2 _ _ _ 3 (by simp) S16x4096x1x3 _ rfl rfl 7 rfl (ix4 b l 0 i) ?_ ?_).trans ?_
      · intro e he; fin_cases e <;> simp_all
      · simp
      · pointwise [val_main_v69]

omit h in
/-- The atoms' places turned by their frames' rotations and moved by their origins, as one sum. -/
theorem sum_apply (a : Fin 37) (i : Fin 3) :
    val_main_v93 (F := Ideal) kinds torsions frames groups places (ix4 b l a i)
      = (∑ k : Fin 3, val_main_v87 (F := Ideal) kinds torsions frames groups (ix5 b l a k i)
          * val_main_v84 (F := Ideal) kinds places (ix4 b l a k)) + val_main_v90 (F := Ideal) kinds torsions frames groups (ix4 b l a i) := by
  have e₁ (k : Fin 3) : idx_main_v91 (lidx_main_v92 (ix4 b l a i) k) = ix5 b l a k i := by
    funext x; match x with | 0 => rfl | 1 => rfl | 2 => rfl | 3 => rfl | 4 => rfl
  have e₂ (k : Fin 3) : ridx_main_v92 (ix4 b l a i) k = ix4 b l a k := by
    funext x; match x with | 0 => rfl | 1 => rfl | 2 => rfl | 3 => rfl
  rw [val_main_v93_apply, val_main_v92_apply]
  simp only [val_main_v91_apply, e₁, e₂]
  generalize val_main_v90 (F := Ideal) kinds torsions frames groups (ix4 b l a i) = x
  generalize (∑ k : Fin 3, val_main_v87 (F := Ideal) kinds torsions frames groups (ix5 b l a k i)
    * val_main_v84 (F := Ideal) kinds places (ix4 b l a k)) = y
  rfl

/-- The reference's result: every atom where its frame puts it. -/
theorem result_apply (a : Fin 37) (i : Fin 3) :
    val_main_v93 (F := Ideal) kinds torsions frames groups places (ix4 b l a i)
      = atom kinds torsions frames groups places b l a i := by
  rw [sum_apply, Fin.sum_univ_three]
  simp only [picked_rot h, rots_apply h, picked_origin h, origins_apply h, places_apply h]
  unfold atom place
  simp only [mul_comm]

end

end Cert.ReferenceIdeal.Read
-- ==== Proof.lean ====
/- The proof of the claims: the three programs run and leave their arguments and their counters as they were, and the
   kernel's program and the reference end with the same array at the arguments the precondition admits. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_drawn
public import proofs.«01_k».proof.Proof.Result
public import proofs.«01_k».proof.Proof.Drawn
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem
open Idealize.ShloMosaic (Ideal)

/-- From any memory the reference runs, ends with every counter at zero and leaves its arguments as they were. -/
theorem reference_frame : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- At arguments as drawn that the kernel's program shares, the reference's result is the atoms' coordinates. -/
theorem reference_result (m : (ℓ : Loc Cert.KernelIdeal.nD Cert.KernelIdeal.τ Cert.KernelIdeal.sig) → Buf (Elt Ideal) ℓ)
    (c : Dev Cert.KernelIdeal.nD) (hD : Cert.KernelIdeal.Lane.Good m c) :
    Cert.ReferenceIdeal.Read.val_main_v93 (F := Ideal) (Cert.KernelIdeal.Lane.kindsOf m c) (Cert.KernelIdeal.Lane.torsionsOf m c)
      (Cert.KernelIdeal.Lane.framesOf m c) (Cert.KernelIdeal.Lane.groupsOf m c) (Cert.KernelIdeal.Lane.placesOf m c)
      = Cert.KernelIdeal.Lane.atoms m c := by
  funext y
  idx_vars y
  exact Cert.ReferenceIdeal.Read.result_apply hD y0 y1 y2 y3

/-- From memories that agree on arguments as drawn, both programs end with the atoms' coordinates and leave their
    arguments as they were. -/
theorem algebraic : algebraic_KernelIdeal_ReferenceIdeal_pre_drawn := by
  intro m g m' g' hpre hagree
  have hD : ∀ c, Cert.KernelIdeal.Lane.Good m c := fun c => Cert.Pre_drawn.drawn (hpre c)
  refine ⟨fun c => Cert.KernelIdeal.Lane.atoms m c, ?_, ?_⟩
  · run_from Cert.KernelIdeal.Gen.run_main m g & Cert.KernelIdeal.Gen.unchanged m g
    exact Cert.KernelIdeal.Lane.result m c (hD c)
  · refine (θ_run Cert.ReferenceIdeal.defs _ _).mono (fun r h c => ⟨(h c).1.trans ?_, (h c).2⟩) (Cert.ReferenceIdeal.Value.run m' g')
    obtain ⟨h₀, h₁, h₂, h₃, h₄⟩ := hagree c
    rw [Cert.ReferenceIdeal.Read.val_main_v93_eq, StableHlo.launchContents_devRef, StableHlo.launchContents_devRef,
      StableHlo.launchContents_devRef, StableHlo.launchContents_devRef, StableHlo.launchContents_devRef, h₀, h₁, h₂, h₃, h₄]
    exact reference_result m c (hD c)

/-- The claims, together. -/
theorem claim : Cert.Claim :=
  ⟨Cert.Kernel.Gen.facts, Cert.KernelIdeal.Gen.facts, Cert.ReferenceIdeal.Gen.facts, Cert.Pre_drawn.Gen.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
